-- ==== Defs.lean ====
def Pre_Xa (m : (ℓ : Loc Cert.Xa.nD Cert.Xa.τ Cert.Xa.sig) → Buf (Elt Bits) ℓ) : Prop :=
  True

def Pre_XaIdeal (m : (ℓ : Loc Cert.XaIdeal.nD Cert.XaIdeal.τ Cert.XaIdeal.sig) → Buf (Elt Ideal) ℓ) : Prop :=
  True

def Pre_XaIdeal_finite_gains [hPre_finite_gains : Cert.Pre_finite_gains.Facts] (m : (ℓ : Loc Cert.XaIdeal.nD Cert.XaIdeal.τ Cert.XaIdeal.sig) → Buf (Elt Ideal) ℓ) : Prop :=
  ∀ c : Dev Cert.XaIdeal.nD,
    (Cert.Pre_finite_gains.fn (F := Ideal) (m ((c.tc : Thread Cert.XaIdeal.nD Cert.XaIdeal.τ).loc Cert.XaIdeal.main_arg0)) (m ((c.tc : Thread Cert.XaIdeal.nD Cert.XaIdeal.τ).loc Cert.XaIdeal.main_arg1)) (m ((c.tc : Thread Cert.XaIdeal.nD Cert.XaIdeal.τ).loc Cert.XaIdeal.main_arg2)) (m ((c.tc : Thread Cert.XaIdeal.nD Cert.XaIdeal.τ).loc Cert.XaIdeal.main_arg3)) (m ((c.tc : Thread Cert.XaIdeal.nD Cert.XaIdeal.τ).loc Cert.XaIdeal.main_arg4)) (m ((c.tc : Thread Cert.XaIdeal.nD Cert.XaIdeal.τ).loc Cert.XaIdeal.main_arg5)) (m ((c.tc : Thread Cert.XaIdeal.nD Cert.XaIdeal.τ).loc Cert.XaIdeal.main_arg6)) (m ((c.tc : Thread Cert.XaIdeal.nD Cert.XaIdeal.τ).loc Cert.XaIdeal.main_arg7)) (m ((c.tc : Thread Cert.XaIdeal.nD Cert.XaIdeal.τ).loc Cert.XaIdeal.main_arg8))) = (fun _ => 1#1)

def Pre_XaRefIdeal (m : (ℓ : Loc Cert.XaRefIdeal.nD Cert.XaRefIdeal.τ Cert.XaRefIdeal.sig) → Buf (Elt Ideal) ℓ) : Prop :=
  True

def Pre_XaRefIdeal_finite_gains [hPre_finite_gains : Cert.Pre_finite_gains.Facts] (m : (ℓ : Loc Cert.XaRefIdeal.nD Cert.XaRefIdeal.τ Cert.XaRefIdeal.sig) → Buf (Elt Ideal) ℓ) : Prop :=
  ∀ c : Dev Cert.XaRefIdeal.nD,
    (Cert.Pre_finite_gains.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2)) (m ((c.tc : Thread Cert.XaRefIdeal.nD Cert.XaRefIdeal.τ).loc Cert.XaRefIdeal.main_arg3)) (m ((c.tc : Thread Cert.XaRefIdeal.nD Cert.XaRefIdeal.τ).loc Cert.XaRefIdeal.main_arg4)) (m ((c.tc : Thread Cert.XaRefIdeal.nD Cert.XaRefIdeal.τ).loc Cert.XaRefIdeal.main_arg5)) (m ((c.tc : Thread Cert.XaRefIdeal.nD Cert.XaRefIdeal.τ).loc Cert.XaRefIdeal.main_arg6)) (m ((c.tc : Thread Cert.XaRefIdeal.nD Cert.XaRefIdeal.τ).loc Cert.XaRefIdeal.main_arg7)) (m ((c.tc : Thread Cert.XaRefIdeal.nD Cert.XaRefIdeal.τ).loc Cert.XaRefIdeal.main_arg8))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def quiescent_Xa [hXa : Cert.Xa.Facts] : Prop :=
  ∀ (m : (ℓ : Loc Cert.Xa.nD Cert.Xa.τ Cert.Xa.sig) → Buf (Elt Bits) ℓ) (g : Dev Cert.Xa.nD → PrngReg), Pre_Xa m →
    θ_run (Cert.Xa.defs (F := Bits)) (onTc (τ := Cert.Xa.τ) (Cert.Xa.main (F := Bits))) ⟨m, fun _ => 0, g⟩ (fun r => (∀ c : Dev Cert.Xa.nD,
      r.2.mem ((c.tc : Thread Cert.Xa.nD Cert.Xa.τ).loc Cert.Xa.main_arg0) = m ((c.tc : Thread Cert.Xa.nD Cert.Xa.τ).loc Cert.Xa.main_arg0)
      ∧ r.2.mem ((c.tc : Thread Cert.Xa.nD Cert.Xa.τ).loc Cert.Xa.main_arg1) = m ((c.tc : Thread Cert.Xa.nD Cert.Xa.τ).loc Cert.Xa.main_arg1)
      ∧ r.2.mem ((c.tc : Thread Cert.Xa.nD Cert.Xa.τ).loc Cert.Xa.main_arg2) = m ((c.tc : Thread Cert.Xa.nD Cert.Xa.τ).loc Cert.Xa.main_arg2)
      ∧ r.2.mem ((c.tc : Thread Cert.Xa.nD Cert.Xa.τ).loc Cert.Xa.main_arg3) = m ((c.tc : Thread Cert.Xa.nD Cert.Xa.τ).loc Cert.Xa.main_arg3)
      ∧ r.2.mem ((c.tc : Thread Cert.Xa.nD Cert.Xa.τ).loc Cert.Xa.main_arg4) = m ((c.tc : Thread Cert.Xa.nD Cert.Xa.τ).loc Cert.Xa.main_arg4)
      ∧ r.2.mem ((c.tc : Thread Cert.Xa.nD Cert.Xa.τ).loc Cert.Xa.main_arg5) = m ((c.tc : Thread Cert.Xa.nD Cert.Xa.τ).loc Cert.Xa.main_arg5)
      ∧ r.2.mem ((c.tc : Thread Cert.Xa.nD Cert.Xa.τ).loc Cert.Xa.main_arg6) = m ((c.tc : Thread Cert.Xa.nD Cert.Xa.τ).loc Cert.Xa.main_arg6)
      ∧ r.2.mem ((c.tc : Thread Cert.Xa.nD Cert.Xa.τ).loc Cert.Xa.main_arg7) = m ((c.tc : Thread Cert.Xa.nD Cert.Xa.τ).loc Cert.Xa.main_arg7)
      ∧ r.2.mem ((c.tc : Thread Cert.Xa.nD Cert.Xa.τ).loc Cert.Xa.main_arg8) = m ((c.tc : Thread Cert.Xa.nD Cert.Xa.τ).loc Cert.Xa.main_arg8))
      ∧ r.2.sem = fun _ => 0)

def quiescent_XaIdeal [hXaIdeal : Cert.XaIdeal.Facts] : Prop :=
  ∀ (m : (ℓ : Loc Cert.XaIdeal.nD Cert.XaIdeal.τ Cert.XaIdeal.sig) → Buf (Elt Ideal) ℓ) (g : Dev Cert.XaIdeal.nD → PrngReg), Pre_XaIdeal m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
      ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
      ∧ r.2.mem ((c.tc : Thread Cert.XaIdeal.nD Cert.XaIdeal.τ).loc Cert.XaIdeal.main_arg4) = m ((c.tc : Thread Cert.XaIdeal.nD Cert.XaIdeal.τ).loc Cert.XaIdeal.main_arg4)
      ∧ r.2.mem ((c.tc : Thread Cert.XaIdeal.nD Cert.XaIdeal.τ).loc Cert.XaIdeal.main_arg5) = m ((c.tc : Thread Cert.XaIdeal.nD Cert.XaIdeal.τ).loc Cert.XaIdeal.main_arg5)
      ∧ r.2.mem ((c.tc : Thread Cert.XaIdeal.nD Cert.XaIdeal.τ).loc Cert.XaIdeal.main_arg6) = m ((c.tc : Thread Cert.XaIdeal.nD Cert.XaIdeal.τ).loc Cert.XaIdeal.main_arg6)
      ∧ r.2.mem ((c.tc : Thread Cert.XaIdeal.nD Cert.XaIdeal.τ).loc Cert.XaIdeal.main_arg7) = m ((c.tc : Thread Cert.XaIdeal.nD Cert.XaIdeal.τ).loc Cert.XaIdeal.main_arg7)
      ∧ r.2.mem ((c.tc : Thread Cert.XaIdeal.nD Cert.XaIdeal.τ).loc Cert.XaIdeal.main_arg8) = m ((c.tc : Thread Cert.XaIdeal.nD Cert.XaIdeal.τ).loc Cert.XaIdeal.main_arg8))
      ∧ r.2.sem = fun _ => 0)

def quiescent_XaIdeal_pre_finite_gains [hXaIdeal : Cert.XaIdeal.Facts] [hPre_finite_gains : Cert.Pre_finite_gains.Facts] : Prop :=
  ∀ (m : (ℓ : Loc Cert.XaIdeal.nD Cert.XaIdeal.τ Cert.XaIdeal.sig) → Buf (Elt Ideal) ℓ) (g : Dev Cert.XaIdeal.nD → PrngReg), Pre_XaIdeal_finite_gains m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
      ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
      ∧ r.2.mem ((c.tc : Thread Cert.XaIdeal.nD Cert.XaIdeal.τ).loc Cert.XaIdeal.main_arg4) = m ((c.tc : Thread Cert.XaIdeal.nD Cert.XaIdeal.τ).loc Cert.XaIdeal.main_arg4)
      ∧ r.2.mem ((c.tc : Thread Cert.XaIdeal.nD Cert.XaIdeal.τ).loc Cert.XaIdeal.main_arg5) = m ((c.tc : Thread Cert.XaIdeal.nD Cert.XaIdeal.τ).loc Cert.XaIdeal.main_arg5)
      ∧ r.2.mem ((c.tc : Thread Cert.XaIdeal.nD Cert.XaIdeal.τ).loc Cert.XaIdeal.main_arg6) = m ((c.tc : Thread Cert.XaIdeal.nD Cert.XaIdeal.τ).loc Cert.XaIdeal.main_arg6)
      ∧ r.2.mem ((c.tc : Thread Cert.XaIdeal.nD Cert.XaIdeal.τ).loc Cert.XaIdeal.main_arg7) = m ((c.tc : Thread Cert.XaIdeal.nD Cert.XaIdeal.τ).loc Cert.XaIdeal.main_arg7)
      ∧ r.2.mem ((c.tc : Thread Cert.XaIdeal.nD Cert.XaIdeal.τ).loc Cert.XaIdeal.main_arg8) = m ((c.tc : Thread Cert.XaIdeal.nD Cert.XaIdeal.τ).loc Cert.XaIdeal.main_arg8))
      ∧ r.2.sem = fun _ => 0)

def quiescent_XaRefIdeal [hXaRefIdeal : Cert.XaRefIdeal.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3)
      ∧ r.2.mem ((c.tc : Thread Cert.XaRefIdeal.nD Cert.XaRefIdeal.τ).loc Cert.XaRefIdeal.main_arg4) = m ((c.tc : Thread Cert.XaRefIdeal.nD Cert.XaRefIdeal.τ).loc Cert.XaRefIdeal.main_arg4)
      ∧ r.2.mem ((c.tc : Thread Cert.XaRefIdeal.nD Cert.XaRefIdeal.τ).loc Cert.XaRefIdeal.main_arg5) = m ((c.tc : Thread Cert.XaRefIdeal.nD Cert.XaRefIdeal.τ).loc Cert.XaRefIdeal.main_arg5)
      ∧ r.2.mem ((c.tc : Thread Cert.XaRefIdeal.nD Cert.XaRefIdeal.τ).loc Cert.XaRefIdeal.main_arg6) = m ((c.tc : Thread Cert.XaRefIdeal.nD Cert.XaRefIdeal.τ).loc Cert.XaRefIdeal.main_arg6)
      ∧ r.2.mem ((c.tc : Thread Cert.XaRefIdeal.nD Cert.XaRefIdeal.τ).loc Cert.XaRefIdeal.main_arg7) = m ((c.tc : Thread Cert.XaRefIdeal.nD Cert.XaRefIdeal.τ).loc Cert.XaRefIdeal.main_arg7)
      ∧ r.2.mem ((c.tc : Thread Cert.XaRefIdeal.nD Cert.XaRefIdeal.τ).loc Cert.XaRefIdeal.main_arg8) = m ((c.tc : Thread Cert.XaRefIdeal.nD Cert.XaRefIdeal.τ).loc Cert.XaRefIdeal.main_arg8))
      ∧ r.2.sem = fun _ => 0)

def quiescent_XaRefIdeal_pre_finite_gains [hXaRefIdeal : Cert.XaRefIdeal.Facts] [hPre_finite_gains : Cert.Pre_finite_gains.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal_finite_gains m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3)
      ∧ r.2.mem ((c.tc : Thread Cert.XaRefIdeal.nD Cert.XaRefIdeal.τ).loc Cert.XaRefIdeal.main_arg4) = m ((c.tc : Thread Cert.XaRefIdeal.nD Cert.XaRefIdeal.τ).loc Cert.XaRefIdeal.main_arg4)
      ∧ r.2.mem ((c.tc : Thread Cert.XaRefIdeal.nD Cert.XaRefIdeal.τ).loc Cert.XaRefIdeal.main_arg5) = m ((c.tc : Thread Cert.XaRefIdeal.nD Cert.XaRefIdeal.τ).loc Cert.XaRefIdeal.main_arg5)
      ∧ r.2.mem ((c.tc : Thread Cert.XaRefIdeal.nD Cert.XaRefIdeal.τ).loc Cert.XaRefIdeal.main_arg6) = m ((c.tc : Thread Cert.XaRefIdeal.nD Cert.XaRefIdeal.τ).loc Cert.XaRefIdeal.main_arg6)
      ∧ r.2.mem ((c.tc : Thread Cert.XaRefIdeal.nD Cert.XaRefIdeal.τ).loc Cert.XaRefIdeal.main_arg7) = m ((c.tc : Thread Cert.XaRefIdeal.nD Cert.XaRefIdeal.τ).loc Cert.XaRefIdeal.main_arg7)
      ∧ r.2.mem ((c.tc : Thread Cert.XaRefIdeal.nD Cert.XaRefIdeal.τ).loc Cert.XaRefIdeal.main_arg8) = m ((c.tc : Thread Cert.XaRefIdeal.nD Cert.XaRefIdeal.τ).loc Cert.XaRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ r.2.sem = fun _ => 0)

def preserves_Xa_XaIdeal : Prop :=
  IdealRules.named_const.Statement Cert.XaIdeal.κ "qscale" .f32 0x3DB8AA3B#32 (((1 / 16) * (Real.log 2)⁻¹ : ℝ) : EReal)

def algebraic_XaIdeal_XaRefIdeal_pre_finite_gains [hXaIdeal : Cert.XaIdeal.Facts] [hXaRefIdeal : Cert.XaRefIdeal.Facts] [hPre_finite_gains : Cert.Pre_finite_gains.Facts] : Prop :=
  ∀ (m : (ℓ : Loc Cert.XaIdeal.nD Cert.XaIdeal.τ Cert.XaIdeal.sig) → Buf (Elt Ideal) ℓ) (g : Dev Cert.XaIdeal.nD → PrngReg)
    (m' : (ℓ : Loc Cert.XaRefIdeal.nD Cert.XaRefIdeal.τ Cert.XaRefIdeal.sig) → Buf (Elt Ideal) ℓ) (g' : Dev Cert.XaRefIdeal.nD → PrngReg), Pre_XaIdeal_finite_gains m →
    (∀ c : Dev Cert.XaIdeal.nD,
      m' ((c.tc : Thread Cert.XaRefIdeal.nD Cert.XaRefIdeal.τ).loc Cert.XaRefIdeal.main_arg0) = m ((c.tc : Thread Cert.XaIdeal.nD Cert.XaIdeal.τ).loc Cert.XaIdeal.main_arg0)
      ∧ m' ((c.tc : Thread Cert.XaRefIdeal.nD Cert.XaRefIdeal.τ).loc Cert.XaRefIdeal.main_arg1) = m ((c.tc : Thread Cert.XaIdeal.nD Cert.XaIdeal.τ).loc Cert.XaIdeal.main_arg1)
      ∧ m' ((c.tc : Thread Cert.XaRefIdeal.nD Cert.XaRefIdeal.τ).loc Cert.XaRefIdeal.main_arg2) = m ((c.tc : Thread Cert.XaIdeal.nD Cert.XaIdeal.τ).loc Cert.XaIdeal.main_arg2)
      ∧ m' ((c.tc : Thread Cert.XaRefIdeal.nD Cert.XaRefIdeal.τ).loc Cert.XaRefIdeal.main_arg3) = m ((c.tc : Thread Cert.XaIdeal.nD Cert.XaIdeal.τ).loc Cert.XaIdeal.main_arg3)
      ∧ m' ((c.tc : Thread Cert.XaRefIdeal.nD Cert.XaRefIdeal.τ).loc Cert.XaRefIdeal.main_arg4) = m ((c.tc : Thread Cert.XaIdeal.nD Cert.XaIdeal.τ).loc Cert.XaIdeal.main_arg4)
      ∧ m' ((c.tc : Thread Cert.XaRefIdeal.nD Cert.XaRefIdeal.τ).loc Cert.XaRefIdeal.main_arg5) = m ((c.tc : Thread Cert.XaIdeal.nD Cert.XaIdeal.τ).loc Cert.XaIdeal.main_arg5)
      ∧ m' ((c.tc : Thread Cert.XaRefIdeal.nD Cert.XaRefIdeal.τ).loc Cert.XaRefIdeal.main_arg6) = m ((c.tc : Thread Cert.XaIdeal.nD Cert.XaIdeal.τ).loc Cert.XaIdeal.main_arg6)
      ∧ m' ((c.tc : Thread Cert.XaRefIdeal.nD Cert.XaRefIdeal.τ).loc Cert.XaRefIdeal.main_arg7) = m ((c.tc : Thread Cert.XaIdeal.nD Cert.XaIdeal.τ).loc Cert.XaIdeal.main_arg7)
      ∧ m' ((c.tc : Thread Cert.XaRefIdeal.nD Cert.XaRefIdeal.τ).loc Cert.XaRefIdeal.main_arg8) = m ((c.tc : Thread Cert.XaIdeal.nD Cert.XaIdeal.τ).loc Cert.XaIdeal.main_arg8)) →
    ∃ (v0 : (c : Dev Cert.XaIdeal.nD) → Buf (Elt Ideal) ((c.tc : Thread Cert.XaIdeal.nD Cert.XaIdeal.τ).loc Cert.XaIdeal.main_v9)),
      θ_run (Cert.XaIdeal.defs (F := Ideal)) (onTc (τ := Cert.XaIdeal.τ) (Cert.XaIdeal.main (F := Ideal))) ⟨m, fun _ => 0, g⟩ (fun r => ∀ c : Dev Cert.XaIdeal.nD,
          r.2.mem ((c.tc : Thread Cert.XaIdeal.nD Cert.XaIdeal.τ).loc Cert.XaIdeal.main_v9) = v0 c
          ∧ r.2.mem ((c.tc : Thread Cert.XaIdeal.nD Cert.XaIdeal.τ).loc Cert.XaIdeal.main_arg0) = m ((c.tc : Thread Cert.XaIdeal.nD Cert.XaIdeal.τ).loc Cert.XaIdeal.main_arg0)
          ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
          ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
          ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
          ∧ r.2.mem ((c.tc : Thread Cert.XaIdeal.nD Cert.XaIdeal.τ).loc Cert.XaIdeal.main_arg4) = m ((c.tc : Thread Cert.XaIdeal.nD Cert.XaIdeal.τ).loc Cert.XaIdeal.main_arg4)
          ∧ r.2.mem ((c.tc : Thread Cert.XaIdeal.nD Cert.XaIdeal.τ).loc Cert.XaIdeal.main_arg5) = m ((c.tc : Thread Cert.XaIdeal.nD Cert.XaIdeal.τ).loc Cert.XaIdeal.main_arg5)
          ∧ r.2.mem ((c.tc : Thread Cert.XaIdeal.nD Cert.XaIdeal.τ).loc Cert.XaIdeal.main_arg6) = m ((c.tc : Thread Cert.XaIdeal.nD Cert.XaIdeal.τ).loc Cert.XaIdeal.main_arg6)
          ∧ r.2.mem ((c.tc : Thread Cert.XaIdeal.nD Cert.XaIdeal.τ).loc Cert.XaIdeal.main_arg7) = m ((c.tc : Thread Cert.XaIdeal.nD Cert.XaIdeal.τ).loc Cert.XaIdeal.main_arg7)
          ∧ r.2.mem ((c.tc : Thread Cert.XaIdeal.nD Cert.XaIdeal.τ).loc Cert.XaIdeal.main_arg8) = m ((c.tc : Thread Cert.XaIdeal.nD Cert.XaIdeal.τ).loc Cert.XaIdeal.main_arg8))
      ∧ θ_run (Cert.XaRefIdeal.defs (F := Ideal)) (onTc (τ := Cert.XaRefIdeal.τ) (Cert.XaRefIdeal.main (F := Ideal))) ⟨m', fun _ => 0, g'⟩ (fun r => ∀ c : Dev Cert.XaRefIdeal.nD,
          r.2.mem ((c.tc : Thread Cert.XaRefIdeal.nD Cert.XaRefIdeal.τ).loc Cert.XaRefIdeal.main_v91) = v0 c
          ∧ r.2.mem ((c.tc : Thread Cert.XaRefIdeal.nD Cert.XaRefIdeal.τ).loc Cert.XaRefIdeal.main_arg0) = m' ((c.tc : Thread Cert.XaRefIdeal.nD Cert.XaRefIdeal.τ).loc Cert.XaRefIdeal.main_arg0)
          ∧ r.2.mem ((c.tc : Thread Cert.XaRefIdeal.nD Cert.XaRefIdeal.τ).loc Cert.XaRefIdeal.main_arg1) = m' ((c.tc : Thread Cert.XaRefIdeal.nD Cert.XaRefIdeal.τ).loc Cert.XaRefIdeal.main_arg1)
          ∧ r.2.mem ((c.tc : Thread Cert.XaRefIdeal.nD Cert.XaRefIdeal.τ).loc Cert.XaRefIdeal.main_arg2) = m' ((c.tc : Thread Cert.XaRefIdeal.nD Cert.XaRefIdeal.τ).loc Cert.XaRefIdeal.main_arg2)
          ∧ r.2.mem ((c.tc : Thread Cert.XaRefIdeal.nD Cert.XaRefIdeal.τ).loc Cert.XaRefIdeal.main_arg3) = m' ((c.tc : Thread Cert.XaRefIdeal.nD Cert.XaRefIdeal.τ).loc Cert.XaRefIdeal.main_arg3)
          ∧ r.2.mem ((c.tc : Thread Cert.XaRefIdeal.nD Cert.XaRefIdeal.τ).loc Cert.XaRefIdeal.main_arg4) = m' ((c.tc : Thread Cert.XaRefIdeal.nD Cert.XaRefIdeal.τ).loc Cert.XaRefIdeal.main_arg4)
          ∧ r.2.mem ((c.tc : Thread Cert.XaRefIdeal.nD Cert.XaRefIdeal.τ).loc Cert.XaRefIdeal.main_arg5) = m' ((c.tc : Thread Cert.XaRefIdeal.nD Cert.XaRefIdeal.τ).loc Cert.XaRefIdeal.main_arg5)
          ∧ r.2.mem ((c.tc : Thread Cert.XaRefIdeal.nD Cert.XaRefIdeal.τ).loc Cert.XaRefIdeal.main_arg6) = m' ((c.tc : Thread Cert.XaRefIdeal.nD Cert.XaRefIdeal.τ).loc Cert.XaRefIdeal.main_arg6)
          ∧ r.2.mem ((c.tc : Thread Cert.XaRefIdeal.nD Cert.XaRefIdeal.τ).loc Cert.XaRefIdeal.main_arg7) = m' ((c.tc : Thread Cert.XaRefIdeal.nD Cert.XaRefIdeal.τ).loc Cert.XaRefIdeal.main_arg7)
          ∧ r.2.mem ((c.tc : Thread Cert.XaRefIdeal.nD Cert.XaRefIdeal.τ).loc Cert.XaRefIdeal.main_arg8) = m' ((c.tc : Thread Cert.XaRefIdeal.nD Cert.XaRefIdeal.τ).loc Cert.XaRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Gla_GlaIdeal : Prop :=
  True

def Claim : Prop :=
  ∃ (hXa : Cert.Xa.Facts) (hXaIdeal : Cert.XaIdeal.Facts) (hXaRefIdeal : Cert.XaRefIdeal.Facts) (hFfn : Cert.Ffn.Facts) (hFfnIdeal : Cert.FfnIdeal.Facts) (hFfnRefIdeal : Cert.FfnRefIdeal.Facts) (hGla : Cert.Gla.Facts) (hGlaIdeal : Cert.GlaIdeal.Facts) (hPre_finite_gains : Cert.Pre_finite_gains.Facts),
    quiescent_Xa (hXa := hXa)
    ∧ quiescent_XaIdeal (hXaIdeal := hXaIdeal)
    ∧ quiescent_XaIdeal_pre_finite_gains (hXaIdeal := hXaIdeal) (hPre_finite_gains := hPre_finite_gains)
    ∧ quiescent_XaRefIdeal (hXaRefIdeal := hXaRefIdeal)
    ∧ quiescent_XaRefIdeal_pre_finite_gains (hXaRefIdeal := hXaRefIdeal) (hPre_finite_gains := hPre_finite_gains)
    ∧ quiescent_Ffn (hFfn := hFfn)
    ∧ quiescent_FfnIdeal (hFfnIdeal := hFfnIdeal)
    ∧ quiescent_FfnRefIdeal (hFfnRefIdeal := hFfnRefIdeal)
    ∧ quiescent_Gla (hGla := hGla)
    ∧ quiescent_GlaIdeal (hGlaIdeal := hGlaIdeal)
    ∧ preserves_Xa_XaIdeal
    ∧ algebraic_XaIdeal_XaRefIdeal_pre_finite_gains (hXaIdeal := hXaIdeal) (hXaRefIdeal := hXaRefIdeal) (hPre_finite_gains := hPre_finite_gains)
    ∧ preserves_Ffn_FfnIdeal
    ∧ algebraic_FfnIdeal_FfnRefIdeal (hFfnIdeal := hFfnIdeal) (hFfnRefIdeal := hFfnRefIdeal)
    ∧ preserves_Gla_GlaIdeal
-- ==== Pre_finite_gains.lean ====
abbrev S16x2048x1024 : Shape := ⟨3, ![16, 2048, 1024]⟩
abbrev S16x256x1024 : Shape := ⟨3, ![16, 256, 1024]⟩
abbrev S2x1024 : Shape := ⟨2, ![2, 1024]⟩
abbrev S2x1024x1024 : Shape := ⟨3, ![2, 1024, 1024]⟩
abbrev S2x1024x2048 : Shape := ⟨3, ![2, 1024, 2048]⟩
abbrev S2x256 : Shape := ⟨2, ![2, 256]⟩
abbrev S_ : Shape := ⟨0, ![]⟩

class Facts : Prop where
  bcast_S_S2x256 : S_.BroadcastsInDim S2x256 (![] : Fin 0 → Fin S2x256.rank)

variable [Facts]

def fn {F : FTy → Type} [FloatOps F] (main_arg0 : FVec F S16x2048x1024 .f32) (main_arg1 : FVec F S16x256x1024 .f32) (main_arg2 : FVec F S2x1024 .f32) (main_arg3 : FVec F S2x1024 .f32) (main_arg4 : FVec F S2x1024x1024 .f32) (main_arg5 : FVec F S2x1024x2048 .f32) (main_arg6 : FVec F S2x256 .f32) (main_arg7 : FVec F S2x256 .f32) (main_arg8 : FVec F S2x1024x1024 .f32) : IVec S2x256 1 :=
  let main_v0 : FVec F S2x256 .f32 := Host.absf main_arg6
  let main_cst : FVec F S_ .f32 := constant S_ .f32 0x7F800000#32
  let main_v1 : FVec F S2x256 .f32 := broadcastInDim S2x256 ![] bcast_S_S2x256 main_cst
  let main_v2 : IVec S2x256 1 := cmpf .olt main_v0 main_v1
  let main_v3 : FVec F S2x256 .f32 := Host.absf main_arg7
  let main_cst_0 : FVec F S_ .f32 := constant S_ .f32 0x7F800000#32
  let main_v4 : FVec F S2x256 .f32 := broadcastInDim S2x256 ![] bcast_S_S2x256 main_cst_0
  let main_v5 : IVec S2x256 1 := cmpf .olt main_v3 main_v4
  let main_v6 : IVec S2x256 1 := andi main_v2 main_v5
  main_v6
-- ==== Xa.lean ====
abbrev S16x2048x1024 : Shape := ⟨3, ![16, 2048, 1024]⟩
abbrev S16x256x1024 : Shape := ⟨3, ![16, 256, 1024]⟩
abbrev S2x1024 : Shape := ⟨2, ![2, 1024]⟩
abbrev S2x1024x1024 : Shape := ⟨3, ![2, 1024, 1024]⟩
abbrev S2x1024x2048 : Shape := ⟨3, ![2, 1024, 2048]⟩
abbrev S2x256 : Shape := ⟨2, ![2, 256]⟩
abbrev S2x1x1024 : Shape := ⟨3, ![2, 1, 1024]⟩
abbrev S2x1x256 : Shape := ⟨3, ![2, 1, 256]⟩
abbrev S16x1024x256 : Shape := ⟨3, ![16, 1024, 256]⟩
abbrev S2x256x1024 : Shape := ⟨3, ![2, 256, 1024]⟩
abbrev S1x1x1024 : Shape := ⟨3, ![1, 1, 1024]⟩
abbrev S1x1024x2048 : Shape := ⟨3, ![1, 1024, 2048]⟩
abbrev S1x1x256 : Shape := ⟨3, ![1, 1, 256]⟩
abbrev S2x1024x256 : Shape := ⟨3, ![2, 1024, 256]⟩
abbrev S1x256x1024 : Shape := ⟨3, ![1, 256, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S512x1024 : Shape := ⟨2, ![512, 1024]⟩
abbrev S1024x2048 : Shape := ⟨2, ![1024, 2048]⟩
abbrev S512x2048 : Shape := ⟨2, ![512, 2048]⟩
abbrev S256x2048 : Shape := ⟨2, ![256, 2048]⟩
abbrev S256x256 : Shape := ⟨2, ![256, 256]⟩
abbrev S1x256 : Shape := ⟨2, ![1, 256]⟩
abbrev S1x256x256 : Shape := ⟨3, ![1, 256, 256]⟩
abbrev S1024x256 : Shape := ⟨2, ![1024, 256]⟩
abbrev S1x1024x256 : Shape := ⟨3, ![1, 1024, 256]⟩
abbrev S2x256x1 : Shape := ⟨3, ![2, 256, 1]⟩
abbrev S1x1024x1024 : Shape := ⟨3, ![1, 1024, 1024]⟩
abbrev S1x256x1 : Shape := ⟨3, ![1, 256, 1]⟩
abbrev S2x1024x512 : Shape := ⟨3, ![2, 1024, 512]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩
abbrev S1024x512 : Shape := ⟨2, ![1024, 512]⟩
abbrev S16x256 : Shape := ⟨2, ![16, 256]⟩
abbrev S256x512 : Shape := ⟨2, ![256, 512]⟩
abbrev S1x512 : Shape := ⟨2, ![1, 512]⟩
abbrev S272x256 : Shape := ⟨2, ![272, 256]⟩
abbrev S272x512 : Shape := ⟨2, ![272, 512]⟩
abbrev S1x256x512 : Shape := ⟨3, ![1, 256, 512]⟩
abbrev S1x1024x512 : Shape := ⟨3, ![1, 1024, 512]⟩

abbrev nBuf : Space → Nat
  | .hbm => 20
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S2x1024, .f32⟩
  | .hbm, ⟨3, _⟩ => ⟨S2x1024, .f32⟩
  | .hbm, ⟨4, _⟩ => ⟨S2x1024x1024, .f32⟩
  | .hbm, ⟨5, _⟩ => ⟨S2x1024x2048, .f32⟩
  | .hbm, ⟨6, _⟩ => ⟨S2x256, .f32⟩
  | .hbm, ⟨7, _⟩ => ⟨S2x256, .f32⟩
  | .hbm, ⟨8, _⟩ => ⟨S2x1024x1024, .f32⟩
  | .hbm, ⟨9, _⟩ => ⟨S2x1024x1024, .f32⟩
  | .hbm, ⟨10, _⟩ => ⟨S2x1024x1024, .bf16⟩
  | .hbm, ⟨11, _⟩ => ⟨S2x1024x2048, .bf16⟩
  | .hbm, ⟨12, _⟩ => ⟨S2x1024x1024, .bf16⟩
  | .hbm, ⟨13, _⟩ => ⟨S2x1x1024, .f32⟩
  | .hbm, ⟨14, _⟩ => ⟨S2x1x256, .f32⟩
  | .hbm, ⟨15, _⟩ => ⟨S16x256x1024, .bf16⟩
  | .hbm, ⟨16, _⟩ => ⟨S16x1024x256, .bf16⟩
  | .hbm, ⟨17, _⟩ => ⟨S2x1x1024, .f32⟩
  | .hbm, ⟨18, _⟩ => ⟨S2x256x1, .f32⟩
  | .hbm, ⟨19, _⟩ => ⟨S16x2048x1024, .f32⟩
  | .local _ .vmem, ⟨0, _⟩ => ⟨S2x256x1024, .f32⟩
  | .local _ .vmem, ⟨1, _⟩ => ⟨S2x256x1024, .f32⟩
  | .local _ .vmem, ⟨2, _⟩ => ⟨S1x1x1024, .f32⟩
  | .local _ .vmem, ⟨3, _⟩ => ⟨S1x1024x2048, .bf16⟩
  | .local _ .vmem, ⟨4, _⟩ => ⟨S1x1x256, .f32⟩
  | .local _ .vmem, ⟨5, _⟩ => ⟨S2x256x1024, .bf16⟩
  | .local _ .vmem, ⟨6, _⟩ => ⟨S2x256x1024, .bf16⟩
  | .local _ .vmem, ⟨7, _⟩ => ⟨S2x1024x256, .bf16⟩
  | .local _ .vmem, ⟨8, _⟩ => ⟨S2x1024x256, .bf16⟩
  | .local _ .vmem, ⟨9, _⟩ => ⟨S1x1024x1024, .f32⟩
  | .local _ .vmem, ⟨10, _⟩ => ⟨S1x1024x1024, .f32⟩
  | .local _ .vmem, ⟨11, _⟩ => ⟨S1x1x1024, .f32⟩
  | .local _ .vmem, ⟨12, _⟩ => ⟨S1x1024x1024, .bf16⟩
  | .local _ .vmem, ⟨13, _⟩ => ⟨S1x256x1, .f32⟩
  | .local _ .vmem, ⟨14, _⟩ => ⟨S1x256x1024, .bf16⟩
  | .local _ .vmem, ⟨15, _⟩ => ⟨S1x256x1024, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x1024, .bf16⟩
  | .local _ .vmem, ⟨19, _⟩ => ⟨S1x1024x1024, .f32⟩
  | .local _ .vmem, ⟨20, _⟩ => ⟨S1x1024x1024, .f32⟩
  | .local _ .vmem, ⟨21, _⟩ => ⟨S2x1024x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S1x1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== XaIdeal.lean ====
variable {F : FTy → Type} [FloatOps F] [Named F]
def κ : String → Option EReal := fun
  | "qscale" => some (((1 / 16) * (Real.log 2)⁻¹ : ℝ) : EReal)
  | _ => none
-- ==== XaRefIdeal.lean ====
abbrev S16x2048x1024 : Shape := ⟨3, ![16, 2048, 1024]⟩
abbrev S16x256x1024 : Shape := ⟨3, ![16, 256, 1024]⟩
abbrev S2x1024 : Shape := ⟨2, ![2, 1024]⟩
abbrev S2x1024x1024 : Shape := ⟨3, ![2, 1024, 1024]⟩
abbrev S2x1024x2048 : Shape := ⟨3, ![2, 1024, 2048]⟩
abbrev S2x256 : Shape := ⟨2, ![2, 256]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x256 : Shape := ⟨2, ![16, 256]⟩
abbrev S16x256x1 : Shape := ⟨3, ![16, 256, 1]⟩
abbrev S1x1024x1024 : Shape := ⟨3, ![1, 1024, 1024]⟩
abbrev S1024x1024 : Shape := ⟨2, ![1024, 1024]⟩
abbrev S16x2048x4x256 : Shape := ⟨4, ![16, 2048, 4, 256]⟩
abbrev S1x1024x2048 : Shape := ⟨3, ![1, 1024, 2048]⟩
abbrev S1024x2048 : Shape := ⟨2, ![1024, 2048]⟩
abbrev S16x256x2048 : Shape := ⟨3, ![16, 256, 2048]⟩
abbrev S16x256x4x256 : Shape := ⟨4, ![16, 256, 4, 256]⟩
abbrev S1x256 : Shape := ⟨2, ![1, 256]⟩
abbrev S256 : Shape := ⟨1, ![256]⟩
abbrev S16x2048x4 : Shape := ⟨3, ![16, 2048, 4]⟩
abbrev S16x2048x4x1 : Shape := ⟨4, ![16, 2048, 4, 1]⟩
abbrev S1x1x1x256 : Shape := ⟨4, ![1, 1, 1, 256]⟩
abbrev S16x256x4 : Shape := ⟨3, ![16, 256, 4]⟩
abbrev S16x256x4x1 : Shape := ⟨4, ![16, 256, 4, 1]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩

abbrev nBuf : Space → Nat
  | .hbm => 117
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S2x1024, .f32⟩
  | .hbm, ⟨3, _⟩ => ⟨S2x1024, .f32⟩
  | .hbm, ⟨4, _⟩ => ⟨S2x1024x1024, .f32⟩
  | .hbm, ⟨5, _⟩ => ⟨S2x1024x2048, .f32⟩
  | .hbm, ⟨6, _⟩ => ⟨S2x256, .f32⟩
  | .hbm, ⟨7, _⟩ => ⟨S2x256, .f32⟩
  | .hbm, ⟨8, _⟩ => ⟨S2x1024x1024, .f32⟩
  | .hbm, ⟨9, _⟩ => ⟨S1x1024, .f32⟩
  | .hbm, ⟨10, _⟩ => ⟨S1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S1x1024, .f32⟩
  | .hbm, ⟨28, _⟩ => ⟨S1024, .f32⟩
  | .hbm, ⟨29, _⟩ => ⟨S16x256x1024, .f32⟩
  | .hbm, ⟨30, _⟩ => ⟨S_, .f32⟩
  | .hbm, ⟨31, _⟩ => ⟨S16x256, .f32⟩
  | .hbm, ⟨32, _⟩ => ⟨S16x256x1, .f32⟩
  | .hbm, ⟨33, _⟩ => ⟨S_, .f32⟩
  | .hbm, ⟨34, _⟩ => ⟨S16x256x1, .f32⟩
  | .hbm, ⟨35, _⟩ => ⟨S16x256x1, .f32⟩
  | .hbm, ⟨36, _⟩ => ⟨S_, .f32⟩
  | .hbm, ⟨37, _⟩ => ⟨S16x256x1, .f32⟩
  | .hbm, ⟨38, _⟩ => ⟨S16x256x1, .f32⟩
  | .hbm, ⟨39, _⟩ => ⟨S16x256x1, .f32⟩
  | .hbm, ⟨40, _⟩ => ⟨S16x256x1024, .f32⟩
  | .hbm, ⟨41, _⟩ => ⟨S16x256x1024, .f32⟩
  | .hbm, ⟨42, _⟩ => ⟨S1x1x1024, .f32⟩
  | .hbm, ⟨43, _⟩ => ⟨S16x256x1024, .f32⟩
  | .hbm, ⟨44, _⟩ => ⟨S16x256x1024, .f32⟩
  | .hbm, ⟨45, _⟩ => ⟨S1x1024x1024, .f32⟩
  | .hbm, ⟨46, _⟩ => ⟨S1024x1024, .f32⟩
  | .hbm, ⟨47, _⟩ => ⟨S16x2048x1024, .f32⟩
  | .hbm, ⟨48, _⟩ => ⟨S16x2048x4x256, .f32⟩
  | .hbm, ⟨49, _⟩ => ⟨S1x1024x2048, .f32⟩
  | .hbm, ⟨50, _⟩ => ⟨S1024x2048, .f32⟩
  | .hbm, ⟨51, _⟩ => ⟨S16x256x2048, .f32⟩
  | .hbm, ⟨52, _⟩ => ⟨S16x256x1024, .f32⟩
  | .hbm, ⟨53, _⟩ => ⟨S16x256x1024, .f32⟩
  | .hbm, ⟨54, _⟩ => ⟨S16x256x4x256, .f32⟩
  | .hbm, ⟨55, _⟩ => ⟨S16x256x4x256, .f32⟩
  | .hbm, ⟨56, _⟩ => ⟨S1x256, .f32⟩
  | .hbm, ⟨57, _⟩ => ⟨S256, .f32⟩
  | .hbm, ⟨58, _⟩ => ⟨S16x2048x4x256, .f32⟩
  | .hbm, ⟨59, _⟩ => ⟨S_, .f32⟩
  | .hbm, ⟨60, _⟩ => ⟨S16x2048x4, .f32⟩
  | .hbm, ⟨61, _⟩ => ⟨S16x2048x4x1, .f32⟩
  | .hbm, ⟨62, _⟩ => ⟨S_, .f32⟩
  | .hbm, ⟨63, _⟩ => ⟨S16x2048x4x1, .f32⟩
  | .hbm, ⟨64, _⟩ => ⟨S16x2048x4x1, .f32⟩
  | .hbm, ⟨65, _⟩ => ⟨S_, .f32⟩
  | .hbm, ⟨66, _⟩ => ⟨S16x2048x4x1, .f32⟩
  | .hbm, ⟨67, _⟩ => ⟨S16x2048x4x1, .f32⟩
  | .hbm, ⟨68, _⟩ => ⟨S16x2048x4x1, .f32⟩
  | .hbm, ⟨69, _⟩ => ⟨S16x2048x4x256, .f32⟩
  | .hbm, ⟨70, _⟩ => ⟨S16x2048x4x256, .f32⟩
  | .hbm, ⟨71, _⟩ => ⟨S1x1x1x256, .f32⟩
  | .hbm, ⟨72, _⟩ => ⟨S16x2048x4x256, .f32⟩
  | .hbm, ⟨73, _⟩ => ⟨S16x2048x4x256, .f32⟩
  | .hbm, ⟨74, _⟩ => ⟨S1x256, .f32⟩
  | .hbm, ⟨75, _⟩ => ⟨S256, .f32⟩
  | .hbm, ⟨76, _⟩ => ⟨S16x256x4x256, .f32⟩
  | .hbm, ⟨77, _⟩ => ⟨S_, .f32⟩
  | .hbm, ⟨78, _⟩ => ⟨S16x256x4, .f32⟩
  | .hbm, ⟨79, _⟩ => ⟨S16x256x4x1, .f32⟩
  | .hbm, ⟨80, _⟩ => ⟨S_, .f32⟩
  | .hbm, ⟨81, _⟩ => ⟨S16x256x4x1, .f32⟩
  | .hbm, ⟨82, _⟩ => ⟨S16x256x4x1, .f32⟩
  | .hbm, ⟨83, _⟩ => ⟨S_, .f32⟩
  | .hbm, ⟨84, _⟩ => ⟨S16x256x4x1, .f32⟩
  | .hbm, ⟨85, _⟩ => ⟨S16x256x4x1, .f32⟩
  | .hbm, ⟨86, _⟩ => ⟨S16x256x4x1, .f32⟩
  | .hbm, ⟨87, _⟩ => ⟨S16x256x4x256, .f32⟩
  | .hbm, ⟨88, _⟩ => ⟨S16x256x4x256, .f32⟩
  | .hbm, ⟨89, _⟩ => ⟨S1x1x1x256, .f32⟩
  | .hbm, ⟨90, _⟩ => ⟨S16x256x4x256, .f32⟩
  | .hbm, ⟨91, _⟩ => ⟨S16x256x4x256, .f32⟩
  | .hbm, ⟨92, _⟩ => ⟨S16x4x2048x256, .f32⟩
  | .hbm, ⟨93, _⟩ => ⟨S_, .f32⟩
  | .hbm, ⟨94, _⟩ => ⟨S16x4x2048x256, .f32⟩
  | .hbm, ⟨95, _⟩ => ⟨S16x4x2048x256, .f32⟩
  | .hbm, ⟨96, _⟩ => ⟨S_, .f32⟩
  | .hbm, ⟨97, _⟩ => ⟨S16x4x2048, .f32⟩
  | .hbm, ⟨98, _⟩ => ⟨S_, .f32⟩
  | .hbm, ⟨99, _⟩ => ⟨S16x4x2048, .f32⟩
  | .hbm, ⟨100, _⟩ => ⟨S16x4x2048, .f32⟩
  | .hbm, ⟨101, _⟩ => ⟨S16x4x2048x1, .f32⟩
  | .hbm, ⟨102, _⟩ => ⟨S16x4x2048x256, .f32⟩
  | .hbm, ⟨103, _⟩ => ⟨S16x4x2048x256, .f32⟩
  | .hbm, ⟨104, _⟩ => ⟨S16x4x2048x256, .f32⟩
  | .hbm, ⟨105, _⟩ => ⟨S_, .f32⟩
  | .hbm, ⟨106, _⟩ => ⟨S16x4x2048, .f32⟩
  | .hbm, ⟨107, _⟩ => ⟨S16x4x2048x1, .f32⟩
  | .hbm, ⟨108, _⟩ => ⟨S16x4x2048x256, .f32⟩
  | .hbm, ⟨109, _⟩ => ⟨S16x4x2048x256, .f32⟩
  | .hbm, ⟨110, _⟩ => ⟨S16x4x256x2048, .f32⟩
  | .hbm, ⟨111, _⟩ => ⟨S16x2048x4x256, .f32⟩
  | .hbm, ⟨112, _⟩ => ⟨S16x2048x1024, .f32⟩
  | .hbm, ⟨113, _⟩ => ⟨S1x1024x1024, .f32⟩
  | .hbm, ⟨114, _⟩ => ⟨S1024x1024, .f32⟩
  | .hbm, ⟨115, _⟩ => ⟨S16x2048x1024, .f32⟩
  | .hbm, ⟨116, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_14 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]
-- ==== Ffn.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S2x512x1024 : Shape := ⟨3, ![2, 512, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 8
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x1024x5632, .bf16⟩
  | .hbm, ⟨5, _⟩ => ⟨S2x2816x1024, .bf16⟩
  | .hbm, ⟨6, _⟩ => ⟨S2x1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1024x1024, .f32⟩
  | .local _ .vmem, ⟨6, _⟩ => ⟨S1024x1024, .f32⟩
  | .local _ .vmem, ⟨7, _⟩ => ⟨S2x512x1024, .bf16⟩
  | .local _ .vmem, ⟨8, _⟩ => ⟨S2x512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x5632 : Shape := ⟨3, ![1, 1024, 5632]⟩
abbrev S1024x5632 : Shape := ⟨2, ![1024, 5632]⟩
abbrev S32768x5632 : Shape := ⟨2, ![32768, 5632]⟩
abbrev S32768x2816 : Shape := ⟨2, ![32768, 2816]⟩
abbrev S1x2816x1024 : Shape := ⟨3, ![1, 2816, 1024]⟩
abbrev S2816x1024 : Shape := ⟨2, ![2816, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1x1024x5632, .f32⟩
  | .hbm, ⟨23, _⟩ => ⟨S1024x5632, .f32⟩
  | .hbm, ⟨24, _⟩ => ⟨S32768x5632, .f32⟩
  | .hbm, ⟨25, _⟩ => ⟨S32768x2816, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S1x2816x1024, .f32⟩
  | .hbm, ⟨38, _⟩ => ⟨S2816x1024, .f32⟩
  | .hbm, ⟨39, _⟩ => ⟨S32768x1024, .f32⟩
  | .hbm, ⟨40, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Gla.lean ====
abbrev S16x2048x1024 : Shape := ⟨3, ![16, 2048, 1024]⟩
abbrev S2x1024 : Shape := ⟨2, ![2, 1024]⟩
abbrev S1x1024x3088 : Shape := ⟨3, ![1, 1024, 3088]⟩
abbrev S1x16x256 : Shape := ⟨3, ![1, 16, 256]⟩
abbrev S1x256 : Shape := ⟨2, ![1, 256]⟩
abbrev S1x128 : Shape := ⟨2, ![1, 128]⟩
abbrev S1x3x512 : Shape := ⟨3, ![1, 3, 512]⟩
abbrev S1x1024x1024 : Shape := ⟨3, ![1, 1024, 1024]⟩
abbrev S256x256 : Shape := ⟨2, ![256, 256]⟩
abbrev S4x256 : Shape := ⟨2, ![4, 256]⟩
abbrev S512x256 : Shape := ⟨2, ![512, 256]⟩
abbrev S1x1024 : Shape := ⟨2, ![1, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S128 : Shape := ⟨1, ![128]⟩
abbrev S3x512 : Shape := ⟨2, ![3, 512]⟩
abbrev S1024x1024 : Shape := ⟨2, ![1024, 1024]⟩
abbrev S1024x256 : Shape := ⟨2, ![1024, 256]⟩
abbrev S1024x512 : Shape := ⟨2, ![1024, 512]⟩
abbrev S1024x16 : Shape := ⟨2, ![1024, 16]⟩
abbrev S_ : Shape := ⟨0, ![]⟩
abbrev S1024x128 : Shape := ⟨2, ![1024, 128]⟩
abbrev S1024x3200 : Shape := ⟨2, ![1024, 3200]⟩
abbrev S128x256 : Shape := ⟨2, ![128, 256]⟩
abbrev S4x256x1024 : Shape := ⟨3, ![4, 256, 1024]⟩
abbrev S4x512x256 : Shape := ⟨3, ![4, 512, 256]⟩
abbrev S4x264x512 : Shape := ⟨3, ![4, 264, 512]⟩
abbrev S4x8x512 : Shape := ⟨3, ![4, 8, 512]⟩
abbrev S1x256x1024 : Shape := ⟨3, ![1, 256, 1024]⟩
abbrev S256x1024 : Shape := ⟨2, ![256, 1024]⟩
abbrev S256x1 : Shape := ⟨2, ![256, 1]⟩
abbrev S256x3200 : Shape := ⟨2, ![256, 3200]⟩
abbrev S256x128 : Shape := ⟨2, ![256, 128]⟩
abbrev S256x512 : Shape := ⟨2, ![256, 512]⟩
abbrev S64x256 : Shape := ⟨2, ![64, 256]⟩
abbrev S1x8x512 : Shape := ⟨3, ![1, 8, 512]⟩
abbrev S8x512 : Shape := ⟨2, ![8, 512]⟩
abbrev S1x256x512 : Shape := ⟨3, ![1, 256, 512]⟩
abbrev S1x512 : Shape := ⟨2, ![1, 512]⟩
abbrev S1x512x256 : Shape := ⟨3, ![1, 512, 256]⟩
abbrev S64x512 : Shape := ⟨2, ![64, 512]⟩
abbrev S1x256x128 : Shape := ⟨3, ![1, 256, 128]⟩

abbrev nBuf : Space → Nat
  | .hbm => 41
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S1x1024x3088, .f32⟩
  | .hbm, ⟨3, _⟩ => ⟨S1x16x256, .f32⟩
  | .hbm, ⟨4, _⟩ => ⟨S1x256, .f32⟩
  | .hbm, ⟨5, _⟩ => ⟨S1x128, .f32⟩
  | .hbm, ⟨6, _⟩ => ⟨S1x3x512, .f32⟩
  | .hbm, ⟨7, _⟩ => ⟨S1x1024x1024, .f32⟩
  | .hbm, ⟨8, _⟩ => ⟨S256x256, .bf16⟩
  | .hbm, ⟨9, _⟩ => ⟨S4x256, .f32⟩
  | .hbm, ⟨10, _⟩ => ⟨S512x256, .f32⟩
  | .hbm, ⟨11, _⟩ => ⟨S1x1024, .f32⟩
  | .hbm, ⟨12, _⟩ => ⟨S1024, .f32⟩
  | .hbm, ⟨13, _⟩ => ⟨S1024x3088, .f32⟩
  | .hbm, ⟨14, _⟩ => ⟨S16x256, .f32⟩
  | .hbm, ⟨15, _⟩ => ⟨S256, .f32⟩
  | .hbm, ⟨16, _⟩ => ⟨S128, .f32⟩
  | .hbm, ⟨17, _⟩ => ⟨S3x512, .f32⟩
  | .hbm, ⟨18, _⟩ => ⟨S1024x1024, .f32⟩
  | .hbm, ⟨19, _⟩ => ⟨S1024x256, .f32⟩
  | .hbm, ⟨20, _⟩ => ⟨S1024x256, .f32⟩
  | .hbm, ⟨21, _⟩ => ⟨S1024x512, .f32⟩
  | .hbm, ⟨22, _⟩ => ⟨S1024x16, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x3200, .f32⟩
  | .hbm, ⟨31, _⟩ => ⟨S1024x3200, .bf16⟩
  | .hbm, ⟨32, _⟩ => ⟨S_, .i32⟩
  | .hbm, ⟨33, _⟩ => ⟨S_, .f32⟩
  | .hbm, ⟨34, _⟩ => ⟨S128x256, .f32⟩
  | .hbm, ⟨35, _⟩ => ⟨S128x256, .bf16⟩
  | .hbm, ⟨36, _⟩ => ⟨S1x1024, .f32⟩
  | .hbm, ⟨37, _⟩ => ⟨S1x256, .f32⟩
  | .hbm, ⟨38, _⟩ => ⟨S1x128, .f32⟩
  | .hbm, ⟨39, _⟩ => ⟨S1024x1024, .bf16⟩
  | .hbm, ⟨40, _⟩ => ⟨S16x2048x1024, .f32⟩
  | .local _ .vmem, ⟨0, _⟩ => ⟨S4x256x1024, .f32⟩
  | .local _ .vmem, ⟨1, _⟩ => ⟨S4x256x1024, .f32⟩
  | .local _ .vmem, ⟨2, _⟩ => ⟨S1x1024, .f32⟩
  | .local _ .vmem, ⟨3, _⟩ => ⟨S1024x3200, .bf16⟩
  | .local _ .vmem, ⟨4, _⟩ => ⟨S128x256, .bf16⟩
  | .local _ .vmem, ⟨5, _⟩ => ⟨S1x256, .f32⟩
  | .local _ .vmem, ⟨6, _⟩ => ⟨S1x128, .f32⟩
  | .local _ .vmem, ⟨7, _⟩ => ⟨S3x512, .f32⟩
  | .local _ .vmem, ⟨8, _⟩ => ⟨S1024x1024, .bf16⟩
  | .local _ .vmem, ⟨9, _⟩ => ⟨S256x256, .bf16⟩
  | .local _ .vmem, ⟨10, _⟩ => ⟨S4x256, .f32⟩
  | .local _ .vmem, ⟨11, _⟩ => ⟨S512x256, .f32⟩
  | .local _ .vmem, ⟨12, _⟩ => ⟨S4x256x1024, .f32⟩
  | .local _ .vmem, ⟨13, _⟩ => ⟨S4x256x1024, .f32⟩
  | .local _ .vmem, ⟨14, _⟩ => ⟨S4x512x256, .f32⟩
  | .local _ .vmem, ⟨15, _⟩ => ⟨S4x264x512, .f32⟩
  | .local _ .vmem, ⟨16, _⟩ => ⟨S4x8x512, .f32⟩
  | .local _ .vmem, ⟨17, _⟩ => ⟨S4x256x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_call1_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S4x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Proof.Common.lean ====
module
public import Idealize.ShloMosaic.Lib.Pipeline.ValueKit
public import Idealize.ShloMosaic.Lib.Pipeline.ReadBack
public import Idealize.ShloMosaic.Lib.Pointwise
@[expose] public section
noncomputable section
/-! Loads of a rectangle of a block, read at an index; the kernels' proofs share them. -/
namespace Cert.Common
open Idealize.ShloMosaic Idealize.ShloMosaic.TcCoe Idealize.SL.Sem

/-- A rectangle of a rank-two array, at an index. -/
theorem ld2 {N0 N1 n0 n1 : ℕ} {ty : EltTy} (X : Vec Ideal ⟨2, ![N0, N1]⟩ ty) (a b : ℕ)
    (inb : ∀ x, (![a, b] : Fin 2 → ℕ) x + (![n0, n1] : Fin 2 → ℕ) x ≤ (⟨2, ![N0, N1]⟩ : Shape).size x)
    (i : Fin n0) (j : Fin n1) (i' : Fin N0) (j' : Fin N1) (hi : i'.val = a + i.val) (hj : j'.val = b + j.val) :
    View.ld X (Rect.unit ![a, b] ![n0, n1] inb) (ix2 i j) = X (ix2 i' j') := by
  refine View.ld_unit_apply_of X _ _ inb _ _ fun x => ?_
  match x with
  | ⟨0, _⟩ => exact hi
  | ⟨1, _⟩ => exact hj

/-- A rectangle of a rank-three array, at an index. -/
theorem ld3 {N0 N1 N2 n0 n1 n2 : ℕ} {ty : EltTy} (X : Vec Ideal ⟨3, ![N0, N1, N2]⟩ ty) (a b c : ℕ)
    (inb : ∀ x, (![a, b, c] : Fin 3 → ℕ) x + (![n0, n1, n2] : Fin 3 → ℕ) x ≤ (⟨3, ![N0, N1, N2]⟩ : Shape).size x)
    (i : Fin n0) (j : Fin n1) (k : Fin n2) (i' : Fin N0) (j' : Fin N1) (k' : Fin N2)
    (hi : i'.val = a + i.val) (hj : j'.val = b + j.val) (hk : k'.val = c + k.val) :
    View.ld X (Rect.unit ![a, b, c] ![n0, n1, n2] inb) (ix3 i j k) = X (ix3 i' j' k') := by
  refine View.ld_unit_apply_of X _ _ inb _ _ fun x => ?_
  match x with
  | ⟨0, _⟩ => exact hi
  | ⟨1, _⟩ => exact hj
  | ⟨2, _⟩ => exact hk

end Cert.Common
-- ==== Proof.FfnBlock.lean ====
module
public import proofs.«01_k».proof.Proof.Gen.FfnIdeal.Value
public import proofs.«01_k».proof.Proof.Common
public import Idealize.ShloMosaic.Lib.Pipeline.ValueKit
public import Idealize.ShloMosaic.Lib.Pipeline.ReadBack
public import Idealize.ShloMosaic.Lib.Pointwise
@[expose] public section
set_option maxRecDepth 16384
noncomputable section
/-! The feed-forward sub-layer's kernel: what one grid point leaves in its output block, as a formula over the
    point's input blocks. -/
namespace Cert.FfnIdeal.Val
open Cert.Common Cert.FfnIdeal Cert.FfnIdeal.Gen Idealize.ShloMosaic Idealize.ShloMosaic.TcCoe Idealize.SL.Sem
/-- One chunk of the hidden dimension, as the kernel computes it: the accumulator plus the product of the gated
    activations of 256 hidden units with their 256 rows of the down projection. -/
def chunk (h : Vec Ideal S1x512x1024 .bf16) (g u : Vec Ideal S1x1024x256 .bf16) (acc : Vec Ideal S1x512x1024 .f32)
    (d : Vec Ideal S1x256x1024 .bf16) : FVec Ideal S1x512x1024 .f32 := k0_pay12 (F := Ideal) h g u acc d

section Splits
variable (h : Vec Ideal S1x512x1024 .bf16) (g u : Vec Ideal S1x1024x256 .bf16) (acc : Vec Ideal S1x512x1024 .f32)
    (d : Vec Ideal S1x256x1024 .bf16)
/-! The printed body cuts the same chunk at different places; each cutting composes to `chunk`. -/
theorem cut0 : k0_pay1 (k0_pay62 h g u) (k0_pay63 acc) d = chunk h g u acc d := rfl
theorem cut1 : k0_pay11 (k0_pay10 h g u acc d) = chunk h g u acc d := rfl
theorem cut2 : k0_pay12 h g u acc d = chunk h g u acc d := rfl
theorem cut3 : k0_pay14 (k0_pay13 h) g u acc d = chunk h g u acc d := rfl
theorem cut4 : k0_pay17 (k0_pay15 h) (k0_pay16 h g) u acc d = chunk h g u acc d := rfl
theorem cut5 : k0_pay21 (k0_pay19 h u) (k0_pay20 h g) acc d = chunk h g u acc d := rfl
theorem cut6 : k0_pay24 (k0_pay22 h g u) (k0_pay23 acc) d = chunk h g u acc d := rfl
theorem cut7 : k0_pay25 h g u acc d = chunk h g u acc d := rfl
theorem cut8 : k0_pay26 h g u acc d = chunk h g u acc d := rfl
theorem cut9 : k0_pay29 (k0_pay27 h) (k0_pay28 g) (constant S512x256 .f32 0x00000000#32) u acc d = chunk h g u acc d := rfl
theorem cut10 : k0_pay34 (k0_pay31 h g) (k0_pay32 h u) (k0_pay33 h g) acc d = chunk h g u acc d := rfl
theorem cut11 : k0_pay36 (k0_pay35 h g u) acc d = chunk h g u acc d := rfl
theorem cut12 : k0_pay38 (k0_pay37 h g u acc d) = chunk h g u acc d := rfl
theorem cut13 : k0_pay39 h g u acc d = chunk h g u acc d := rfl
theorem cut14 : k0_pay41 (k0_pay40 h) g u acc d = chunk h g u acc d := rfl
theorem cut15 : k0_pay45 (k0_pay42 h) (k0_pay43 h g) (k0_pay44 u) acc d = chunk h g u acc d := rfl
theorem cut16 : k0_pay47 (k0_pay46 h g u) acc d = chunk h g u acc d := rfl
theorem cut17 : k0_pay51 (k0_pay48 h g u) (k0_pay49 acc) (k0_pay50 d) = chunk h g u acc d := rfl
theorem cut18 : k0_pay52 h g u acc d = chunk h g u acc d := rfl
theorem cut19 : k0_pay53 h g u acc d = chunk h g u acc d := rfl
theorem cut20 : k0_pay56 (k0_pay54 h) (k0_pay55 h g) u acc d = chunk h g u acc d := rfl
theorem cut21 : k0_pay61 (k0_pay58 h g) (k0_pay59 h u) (k0_pay60 h g) acc d = chunk h g u acc d := rfl
end Splits
theorem cutH (x : Vec Ideal S512x1024 .f32) (w : Vec Ideal S1x1x1024 .f32) : k0_pay8 (k0_pay6 w) (k0_pay7 x) = k0_pay4 x w := rfl
theorem cutX (x : Vec Ideal S512x1024 .f32) : k0_pay9 (F := Ideal) x = k0_pay5 x := rfl

/-- The gated activation of one hidden unit. -/
def act (g u : EReal) : EReal := Ideal.div g (1 + Ideal.exp (0 - g)) * u

/-- What hidden unit `j` adds to one output element, from the normed row `h`, the gate-and-up matrix `W` and the
    element's column `D` of the down projection. -/
def hiddenUnit (h : Fin 1024 → EReal) (W : Fin 1024 → Fin 5632 → EReal) (D : Fin 2816 → EReal) (j : Fin 2816) : EReal :=
  act (∑ l : Fin 1024, h l * W l ⟨j.val, by omega⟩) (∑ l : Fin 1024, h l * W l ⟨2816 + j.val, by omega⟩) * D j

/-- A chunk adds, at each element, the gated activations of its 256 hidden units against its rows of the projection. -/
theorem chunk_at (h : Vec Ideal S1x512x1024 .bf16) (g u : Vec Ideal S1x1024x256 .bf16) (acc : Vec Ideal S1x512x1024 .f32)
    (d : Vec Ideal S1x256x1024 .bf16) (r : Fin 512) (c : Fin 1024) :
    chunk h g u acc d (ix3 0 r c) = acc (ix3 0 r c) + ∑ k : Fin 256,
      act (∑ l : Fin 1024, h (ix3 0 r l) * g (ix3 0 l k)) (∑ l : Fin 1024, h (ix3 0 r l) * u (ix3 0 l k)) * d (ix3 0 k c) := by
  unfold chunk act
  pointwise [k0_pay12]

/-- The same with the chunk's columns and rows taken out of the whole weight blocks at offset `o`. -/
theorem chunk_ld (H : Vec Ideal S1x512x1024 .bf16) (W : Vec Ideal S1x1024x5632 .bf16) (D : Vec Ideal S1x2816x1024 .bf16)
    (acc : Vec Ideal S1x512x1024 .f32) (o o' : ℕ) (ho : o + 256 ≤ 2816) (ho' : o' = 2816 + o)
    (i1 : ∀ a, (![0, 0, o] : Fin 3 → ℕ) a + (![1, 1024, 256] : Fin 3 → ℕ) a ≤ S1x1024x5632.size a)
    (i2 : ∀ a, (![0, 0, o'] : Fin 3 → ℕ) a + (![1, 1024, 256] : Fin 3 → ℕ) a ≤ S1x1024x5632.size a)
    (i3 : ∀ a, (![0, o, 0] : Fin 3 → ℕ) a + (![1, 256, 1024] : Fin 3 → ℕ) a ≤ S1x2816x1024.size a) (r : Fin 512) (c : Fin 1024) :
    chunk H (View.ld W (Rect.unit ![0, 0, o] ![1, 1024, 256] i1)) (View.ld W (Rect.unit ![0, 0, o'] ![1, 1024, 256] i2)) acc
      (View.ld D (Rect.unit ![0, o, 0] ![1, 256, 1024] i3)) (ix3 0 r c)
    = acc (ix3 0 r c) + ∑ k : Fin 256,
      hiddenUnit (fun l => H (ix3 0 r l)) (fun l n => W (ix3 0 l n)) (fun j => D (ix3 0 j c)) ⟨o + k.val, by omega⟩ := by
  subst ho'
  rw [chunk_at]
  unfold hiddenUnit
  refine congrArg (acc (ix3 0 r c) + ·) (Finset.sum_congr rfl fun k _ => ?_)
  have hg : ∀ l, View.ld W (Rect.unit ![0, 0, o] ![1, 1024, 256] i1) (ix3 0 l k) = W (ix3 0 l ⟨o + k.val, by omega⟩) :=
    fun l => ld3 W 0 0 o i1 0 l k _ _ _ (by simp) (by simp) rfl
  have hu : ∀ l, View.ld W (Rect.unit ![0, 0, 2816 + o] ![1, 1024, 256] i2) (ix3 0 l k)
      = W (ix3 0 l ⟨2816 + (o + k.val), by omega⟩) :=
    fun l => ld3 W 0 0 (2816 + o) i2 0 l k _ _ _ (by simp) (by simp) (by simp; omega)
  have hd : View.ld D (Rect.unit ![0, o, 0] ![1, 256, 1024] i3) (ix3 0 k c) = D (ix3 0 ⟨o + k.val, by omega⟩ c) :=
    ld3 D 0 o 0 i3 0 k c _ _ _ (by simp) rfl (by simp)
  simp only [hg, hu, hd]

/-- The normed row: the row times the reciprocal root of its mean square plus epsilon, times the gain. -/
def normRow (x : Fin 1024 → EReal) (w : Fin 1024 → EReal) (l : Fin 1024) : EReal :=
  x l * Ideal.rsqrt (Ideal.div (∑ k : Fin 1024, x k * x k) (Ideal.ofBits FTy.f32 0x44800000#32) + Ideal.ofBits FTy.f32 0x358637BD#32) * w l

/-- The stored normed rows. -/
theorem norm_at (x : Vec Ideal S512x1024 .f32) (w : Vec Ideal S1x1x1024 .f32) (r : Fin 512) (l : Fin 1024) :
    k0_pay4 x w (ix3 0 r l) = normRow (fun k => x (ix2 r k)) (fun k => w (ix3 0 0 k)) l := by
  unfold normRow
  pointwise [k0_pay4]

/-- The accumulator starts at the rows themselves. -/
theorem acc_at (x : Vec Ideal S512x1024 .f32) (r : Fin 512) (l : Fin 1024) :
    k0_pay5 (F := Ideal) x (ix3 0 r l) = x (ix2 r l) := by
  pointwise [k0_pay5]

/-- The first half's copy into the output block. -/
theorem pay2_at (v : Vec Ideal S1x512x1024 .f32) (r : Fin 512) (c : Fin 1024) :
    k0_pay2 (F := Ideal) v (ix2 r c) = v (ix3 0 r c) := by
  pointwise [k0_pay2]

/-- The second half's copy into the output block. -/
theorem pay3_at (v : Vec Ideal S1x512x1024 .f32) (r : Fin 512) (c : Fin 1024) :
    k0_pay3 (F := Ideal) v (ix2 r c) = v (ix3 0 r c) := by
  pointwise [k0_pay3]

/-- One output element of the sub-layer from its row: the row's element plus what the 2816 hidden units add. -/
def ffnRow (x w : Fin 1024 → EReal) (W : Fin 1024 → Fin 5632 → EReal) (D : Fin 2816 → Fin 1024 → EReal) (c : Fin 1024) : EReal :=
  x c + ∑ j : Fin 2816, hiddenUnit (normRow x w) W (fun j => D j c) j

/-- A sum over the 2816 hidden units, added chunk by chunk onto `a`. -/
theorem sum_chunks (a : EReal) (f : Fin 2816 → EReal) : a + ∑ j : Fin 2816, f j
    = a + ∑ k : Fin 256, f ⟨0 + k.val, by omega⟩ + ∑ k : Fin 256, f ⟨256 + k.val, by omega⟩ + ∑ k : Fin 256, f ⟨512 + k.val, by omega⟩
      + ∑ k : Fin 256, f ⟨768 + k.val, by omega⟩ + ∑ k : Fin 256, f ⟨1024 + k.val, by omega⟩ + ∑ k : Fin 256, f ⟨1280 + k.val, by omega⟩
      + ∑ k : Fin 256, f ⟨1536 + k.val, by omega⟩ + ∑ k : Fin 256, f ⟨1792 + k.val, by omega⟩ + ∑ k : Fin 256, f ⟨2048 + k.val, by omega⟩
      + ∑ k : Fin 256, f ⟨2304 + k.val, by omega⟩ + ∑ k : Fin 256, f ⟨2560 + k.val, by omega⟩ := by
  have e : ∀ g : Fin 11 → EReal, a + ∑ j : Fin 11, g j = a + g 0 + g 1 + g 2 + g 3 + g 4 + g 5 + g 6 + g 7 + g 8 + g 9 + g 10 := by
    intro g
    rw [Fin.sum_univ_castSucc, Fin.sum_univ_castSucc, Fin.sum_univ_castSucc, Fin.sum_univ_eight]
    simp only [add_assoc]
    rfl
  rw [Fin.sum_univ_tiles 11 256 rfl f, e]
  rfl

variable (m : (ℓ : Loc nD τ sig) → Buf (Elt Ideal) ℓ)

/-- What a grid point leaves in its output block: each row's sub-layer output, from the point's input blocks. -/
theorem outs_at (c : Dev nD) (t : Fin cfg0.N) (r c' : Fin 1024) : outsAt0 m c t (ix2 r c')
    = ffnRow (fun k => iblk m c 0 t (ix2 r k)) (fun k => iblk m c 1 t (ix3 0 0 k)) (fun l n => iblk m c 2 t (ix3 0 l n))
        (fun j n => iblk m c 3 t (ix3 0 j n)) c' := by
  unfold outsAt0
  frame_out
  simp (disch := decide) only [↓View.readCov_skip, ↓View.readCov_cons_toLoadRect, cut0, cut1, cut2, cut3, cut4, cut5, cut6, cut7, cut8, cut9, cut10, cut11, cut12, cut13, cut14, cut15, cut16, cut17, cut18, cut19, cut20, cut21, cutH, cutX]
  obtain ⟨X, hX⟩ : ∃ X : Vec Ideal S1024x1024 .f32, X = iblk m c 0 t := ⟨_, rfl⟩
  obtain ⟨w, hw⟩ : ∃ w : Vec Ideal S1x1x1024 .f32, w = iblk m c 1 t := ⟨_, rfl⟩
  obtain ⟨W, hW⟩ : ∃ W : Vec Ideal S1x1024x5632 .bf16, W = iblk m c 2 t := ⟨_, rfl⟩
  obtain ⟨D, hD⟩ : ∃ D : Vec Ideal S1x2816x1024 .bf16, D = iblk m c 3 t := ⟨_, rfl⟩
  rw [← hX, ← hw, ← hW, ← hD]
  clear hX hw hW hD
  canon_tiles x h
  case piece0 =>
    idx_vars x
    obtain rfl : r = ⟨512 + x0.val, Nat.add_lt_add_left x0_lt 512⟩ := Fin.ext h0
    obtain rfl : c' = x1 := Fin.ext h1
    have hx : ∀ k, View.ld X (Rect.unit ![512, 0] ![512, 1024] inb_S1024x1024_S512x1024_512_0) (ix2 x0 k)
        = X (ix2 ⟨512 + x0.val, Nat.add_lt_add_left x0_lt 512⟩ k) := fun k => ld2 X 512 0 _ _ _ _ _ rfl (by simp)
    rw [pay3_at]
    simp (disch := decide) only [chunk_ld, norm_at, acc_at, hx]
    unfold ffnRow
    rw [sum_chunks]
  case piece1 =>
    idx_vars x
    obtain rfl : r = ⟨x0.val, lt_of_lt_of_le x0_lt (by decide)⟩ := Fin.ext (by simpa using h0)
    obtain rfl : c' = x1 := Fin.ext h1
    have hx : ∀ k, View.ld X (Rect.unit ![0, 0] ![512, 1024] inb_S1024x1024_S512x1024_0_0) (ix2 x0 k)
        = X (ix2 ⟨x0.val, lt_of_lt_of_le x0_lt (by decide)⟩ k) := fun k => ld2 X 0 0 _ _ _ _ _ (by simp) (by simp)
    rw [pay2_at]
    simp (disch := decide) only [chunk_ld, norm_at, acc_at, hx]
    unfold ffnRow
    rw [sum_chunks]
end Cert.FfnIdeal.Val
-- ==== Proof.FfnValue.lean ====
module
public import proofs.«01_k».proof.Proof.FfnBlock
public import proofs.«01_k».proof.Proof.Gen.FfnRefIdeal.Run
public import proofs.«01_k».proof.Proof.Gen.FfnRefIdeal.Read
@[expose] public section
set_option maxRecDepth 16384
noncomputable section
/-! The feed-forward sub-layer: the kernel's output array after its whole grid, and the reference's result, are the
    same function of the argument arrays. -/
namespace Cert.FfnIdeal.Val
open Cert.FfnIdeal Cert.FfnIdeal.Gen Idealize.ShloMosaic Idealize.ShloMosaic.TcCoe Idealize.SL.Sem
variable (m : (ℓ : Loc nD τ sig) → Buf (Elt Ideal) ℓ)

/-- Which block each window reads or writes at a grid point. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![t.val, 0] :=
  (by decide +kernel : ∀ t : Fin grid0.N, _)

/-- The sub-layer's output array as a function of the argument arrays. -/
def ffnOut (x : Vec Ideal S32768x1024 .f32) (w : Vec Ideal S2x1024 .f32) (W : Vec Ideal S2x1024x5632 .f32) (D : Vec Ideal S2x2816x1024 .f32) :
    Vec Ideal S32768x1024 .f32 := fun i =>
  ffnRow (fun k => x (ix2 (i 0) k)) (fun k => w (ix2 0 k)) (fun l n => W (ix3 0 l n)) (fun j n => D (ix3 0 j n)) (i 1)

/-- The kernel's output array after its last grid point. -/
theorem final (c : Dev nD) : (dats m 0 c).arrAt 4 (cfgs 0).N
    = ffnOut (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  have ht : t.val < 32 := lt_of_lt_of_eq t.isLt N_0
  idx_vars y
  refine (outs_at m c t y0 y1).trans ?_
  have h0 : ∀ k, iblk m c 0 t (ix2 y0 k) = m ((c : Thread nD τ).loc main_arg0) (ix2 ⟨t.val * 1024 + y0.val, by omega⟩ k) := by
    intro k
    blk_point [iblk, V, idx t]
  have h1 : ∀ k, iblk m c 1 t (ix3 0 0 k) = m ((c : Thread nD τ).loc main_arg1) (ix2 0 k) := by
    intro k
    blk_point [iblk, V, idx t]
  have h2 : ∀ l n, iblk m c 2 t (ix3 0 l n) = m ((c : Thread nD τ).loc main_arg2) (ix3 0 l n) := by
    intro l n
    blk_point [iblk, V, idx t]
  have h3 : ∀ l n, iblk m c 3 t (ix3 0 l n) = m ((c : Thread nD τ).loc main_arg3) (ix3 0 l n) := by
    intro l n
    blk_point [iblk, V, idx t]
  simp only [h0, h1, h2, h3]
  refine (show _ = ffnOut (m ((c : Thread nD τ).loc main_arg0)) (m ((c : Thread nD τ).loc main_arg1)) (m ((c : Thread nD τ).loc main_arg2))
        (m ((c : Thread nD τ).loc main_arg3)) (ix2 ⟨t.val * 1024 + y0.val, by omega⟩ y1) from rfl).trans (congrArg _ ?_)
  blk_ext [idx t]
end Cert.FfnIdeal.Val

namespace Cert.FfnRefIdeal.Val
open Cert.FfnIdeal.Val Cert.FfnRefIdeal Cert.FfnRefIdeal.Gen Cert.FfnRefIdeal.Read Idealize.ShloMosaic Idealize.ShloMosaic.TcCoe Idealize.SL.Sem

/-- The reference's normed rows. -/
theorem norm_at (x : Vec Ideal S32768x1024 .f32) (w : Vec Ideal S2x1024 .f32) (r : Fin 32768) (l : Fin 1024) :
    val_main_v14 (F := Ideal) x w (ix2 r l) = normRow (fun k => x (ix2 r k)) (fun k => w (ix2 0 k)) l := by
  unfold normRow
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The reference's gate and up projections. -/
theorem proj_at (x : Vec Ideal S32768x1024 .f32) (w : Vec Ideal S2x1024 .f32) (W : Vec Ideal S2x1024x5632 .f32) (r : Fin 32768) (n : Fin 5632) :
    val_main_v17 (F := Ideal) x w W (ix2 r n)
      = ∑ l : Fin 1024, normRow (fun k => x (ix2 r k)) (fun k => w (ix2 0 k)) l * W (ix3 0 l n) := by
  pointwise [val_main_v17, val_main_v16, val_main_v15, norm_at]

/-- One plus an exponential is not zero. -/
theorem one_add_exp_ne_zero (x : EReal) : 1 + Ideal.exp x ≠ 0 := by
  have h0 : 0 ≤ Ideal.exp x := by
    induction x with
    | bot => exact le_refl _
    | top => exact le_top
    | coe r => exact EReal.coe_nonneg.mpr (Real.exp_pos r).le
  have h1 : (1 : EReal) ≤ 1 + Ideal.exp x := le_add_of_nonneg_right h0
  exact (lt_of_lt_of_le zero_lt_one h1).ne'

/-- The two ways of writing the gate's logistic factor agree. -/
theorem gate_eq (g : EReal) : g * Ideal.div 1 (1 + Ideal.exp (-g)) = Ideal.div g (1 + Ideal.exp (0 - g)) := by
  rw [zero_sub]
  unfold Ideal.div
  rw [if_neg (one_add_exp_ne_zero _), if_neg (one_add_exp_ne_zero _), one_mul]

/-- The reference's gated activation of a hidden unit. -/
theorem act_at (x : Vec Ideal S32768x1024 .f32) (w : Vec Ideal S2x1024 .f32) (W : Vec Ideal S2x1024x5632 .f32) (r : Fin 32768) (j : Fin 2816) :
    val_main_v21 (F := Ideal) x w W (ix2 r j)
      = act (val_main_v17 (F := Ideal) x w W (ix2 r ⟨j.val, by omega⟩)) (val_main_v17 (F := Ideal) x w W (ix2 r ⟨2816 + j.val, by omega⟩)) := by
  unfold act
  pointwise [val_main_v21, val_main_v20, val_main_v19, val_main_v18, val_main_call0_v5, val_main_call0_v4, val_main_call0_v3,
    val_main_call0_v2, val_main_call0_v1, val_main_call0_v0, val_main_call0_cst, val_main_call0_cst_0]
  exact congrArg (· * _) (gate_eq _)

/-- The reference's result is the same function of the arguments. -/
theorem ref_eq (x : Vec Ideal S32768x1024 .f32) (w : Vec Ideal S2x1024 .f32) (W : Vec Ideal S2x1024x5632 .f32) (D : Vec Ideal S2x2816x1024 .f32) :
    val_main_v25 (F := Ideal) x w W D = ffnOut x w W D := by
  funext i
  idx_vars i
  unfold ffnOut ffnRow hiddenUnit
  pointwise [val_main_v25, val_main_v24, val_main_v23, val_main_v22, act_at, proj_at]
end Cert.FfnRefIdeal.Val
-- ==== Proof.XaRun.lean ====
module
public import proofs.«01_k».proof.Proof.Gen.XaIdeal.Frame
@[expose] public section
set_option maxRecDepth 16384
noncomputable section
/-! The cross-attention program's run, its result array named. -/
namespace Cert.XaIdeal.Val
open Cert.XaIdeal Cert.XaIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run ends with the result array at what the second kernel's write-backs leave, and with the arguments as
    launched. The launch follows the frame's; only the facts read from the last state differ. -/
theorem run : θ_run defs (onTc (τ := τ) (main (F := F))) ⟨m, fun _ => 0, ρ⟩ (fun r => ∀ c : Dev nD,
      r.2.mem ((c.tc : Thread nD τ).loc main_v9) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨(h c _ (mem_uc main_v9 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)
end Cert.XaIdeal.Val
-- ==== Proof.XaKv.lean ====
module
public import proofs.«01_k».proof.Proof.Gen.XaIdeal.Frame
public import proofs.«01_k».proof.Proof.Common
public import Idealize.ShloMosaic.Lib.Pipeline.ValueKit
public import Idealize.ShloMosaic.Lib.Pipeline.ReadBack
public import Idealize.ShloMosaic.Lib.Pointwise
@[expose] public section
set_option maxRecDepth 16384
noncomputable section
/-! The cross-attention's first kernel: what one grid point leaves of the memory's keys and values, as formulas over
    the point's input blocks. -/
namespace Cert.XaIdeal.Val
open Cert.Common Cert.XaIdeal Cert.XaIdeal.Gen Idealize.ShloMosaic Idealize.ShloMosaic.TcCoe Idealize.SL.Sem

/-- The RMS norm of a row of 1024 numbers, with its gain. -/
def normRow (x w : Fin 1024 → EReal) (l : Fin 1024) : EReal :=
  x l * Ideal.rsqrt (Ideal.div (∑ k : Fin 1024, x k * x k) (Ideal.ofBits FTy.f32 0x44800000#32) + Ideal.ofBits FTy.f32 0x358637BD#32) * w l

/-- The RMS norm of one head's 256 numbers, with its gain. -/
def normHead (z g : Fin 256 → EReal) (d : Fin 256) : EReal :=
  z d * Ideal.rsqrt (Ideal.div (∑ k : Fin 256, z k * z k) (Ideal.ofBits FTy.f32 0x43800000#32) + Ideal.ofBits FTy.f32 0x358637BD#32) * g d

/-- One number of a normed row's projection. -/
def proj {N : Nat} (x w : Fin 1024 → EReal) (W : Fin 1024 → Fin N → EReal) (n : Fin N) : EReal :=
  ∑ l : Fin 1024, normRow x w l * W l n

/-- The first memory row's projection. -/
theorem kv0_at (a b : Vec Ideal S1x256x1024 .f32) (g g' : Vec Ideal S1x1x1024 .f32) (W : Vec Ideal S1x1024x2048 .bf16) (r : Fin 256) (n : Fin 2048) :
    k0_pay6 (F := Ideal) (k0_pay3 a g b g') (k0_pay4 W) (constant S512x2048 .f32 0x00000000#32) (ix2 r n)
      = proj (fun l => a (ix3 0 r l)) (fun l => g (ix3 0 0 l)) (fun l n => W (ix3 0 l n)) n := by
  unfold proj normRow
  pointwise [k0_pay6, k0_pay5, k0_pay3, k0_pay4]

/-- The second memory row's projection. -/
theorem kv1_at (a b : Vec Ideal S1x256x1024 .f32) (g g' : Vec Ideal S1x1x1024 .f32) (W : Vec Ideal S1x1024x2048 .bf16) (r : Fin 256) (n : Fin 2048) :
    k0_pay13 (F := Ideal) (k0_pay5 (k0_pay3 a g b g') (k0_pay4 W) (constant S512x2048 .f32 0x00000000#32)) (ix2 r n)
      = proj (fun l => b (ix3 0 r l)) (fun l => g' (ix3 0 0 l)) (fun l n => W (ix3 0 l n)) n := by
  unfold proj normRow
  pointwise [k0_pay13, k0_pay5, k0_pay3, k0_pay4]

section Heads
variable (kv : FVec Ideal S256x2048 .f32) (g : Vec Ideal S1x1x256 .f32) (a : Fin 1) (r d : Fin 256)
/-- Head 2 of the first memory row's keys, normed. -/
theorem head2_at : k0_pay9 (F := Ideal) kv g (ix3 a r d)
    = normHead (fun d => kv (ix2 r ⟨512 + d.val, by omega⟩)) (fun d => g (ix3 0 0 d)) d := by
  unfold normHead
  pointwise [k0_pay9]
/-- Head 3 of the first memory row's keys, normed. -/
theorem head3_at : k0_pay10 (F := Ideal) kv g (ix3 a r d)
    = normHead (fun d => kv (ix2 r ⟨768 + d.val, by omega⟩)) (fun d => g (ix3 0 0 d)) d := by
  unfold normHead
  pointwise [k0_pay10]
/-- Head 2 of the second memory row's keys, normed. -/
theorem head6_at : k0_pay17 (F := Ideal) kv g (ix3 a r d)
    = normHead (fun d => kv (ix2 r ⟨512 + d.val, by omega⟩)) (fun d => g (ix3 0 0 d)) d := by
  unfold normHead
  pointwise [k0_pay17]
/-- Head 3 of the second memory row's keys, normed. -/
theorem head7_at : k0_pay1 (F := Ideal) (k0_pay18 kv g) (ix3 a r d)
    = normHead (fun d => kv (ix2 r ⟨768 + d.val, by omega⟩)) (fun d => g (ix3 0 0 d)) d := by
  unfold normHead
  pointwise [k0_pay18, k0_pay1]
/-- The first memory row's values, transposed. -/
theorem val0_at (n : Fin 1024) : k0_pay12 (F := Ideal) (k0_pay11 kv) (ix3 a n r) = kv (ix2 r ⟨1024 + n.val, by omega⟩) := by
  pointwise [k0_pay11, k0_pay12]
/-- The second memory row's values, transposed. -/
theorem val1_at (n : Fin 1024) : k0_pay2 (F := Ideal) kv (ix3 a n r) = kv (ix2 r ⟨1024 + n.val, by omega⟩) := by
  pointwise [k0_pay2]
variable (P : FVec Ideal S512x1024 .bf16) (W : FVec Ideal S1024x2048 .bf16) (z K : FVec Ideal S512x2048 .f32)
/-- Head 0 of the first memory row's keys, normed. -/
theorem head0_at : k0_pay7 (F := Ideal) P W z g (ix3 a r d)
    = normHead (fun d => k0_pay6 P W z (ix2 r ⟨d.val, by omega⟩)) (fun d => g (ix3 0 0 d)) d := by
  unfold normHead
  pointwise [k0_pay7]
/-- Head 1 of the first memory row's keys, normed. -/
theorem head1_at : k0_pay8 (F := Ideal) P W z g (ix3 a r d)
    = normHead (fun d => k0_pay6 P W z (ix2 r ⟨256 + d.val, by omega⟩)) (fun d => g (ix3 0 0 d)) d := by
  unfold normHead
  pointwise [k0_pay8]
/-- Head 0 of the second memory row's keys, normed. -/
theorem head4_at : k0_pay14 (F := Ideal) K g (ix3 a r d)
    = normHead (fun d => k0_pay13 K (ix2 r ⟨d.val, by omega⟩)) (fun d => g (ix3 0 0 d)) d := by
  unfold normHead
  pointwise [k0_pay14]
/-- Head 1 of the second memory row's keys, normed. -/
theorem head5_at : k0_pay16 (F := Ideal) (k0_pay15 K g) (ix3 a r d)
    = normHead (fun d => k0_pay13 K (ix2 r ⟨256 + d.val, by omega⟩)) (fun d => g (ix3 0 0 d)) d := by
  unfold normHead
  pointwise [k0_pay15, k0_pay16]
end Heads

/-- A column of the keys lies in head `c / 256`, at `c % 256` of it. -/
theorem head_col (f : Fin 2048 → EReal) (g : Fin 256 → EReal) (k : Nat) (d : Fin 256) (c : Fin 1024) (hc : c.val = k * 256 + d.val)
    (v : Fin 256 → EReal) (hv : ∀ d' : Fin 256, v d' = f ⟨k * 256 + d'.val, by omega⟩) :
    normHead v g d = normHead (fun d' => f ⟨c.val / 256 * 256 + d'.val, by omega⟩) g ⟨c.val % 256, Nat.mod_lt _ (by decide)⟩ := by
  have h1 : c.val / 256 = k := by omega
  have h2 : (⟨c.val % 256, Nat.mod_lt _ (by decide)⟩ : Fin 256) = d := Fin.ext (by show c.val % 256 = d.val; omega)
  rw [h2]
  congr 1
  funext d'
  rw [hv]
  congr 2
  rw [h1]

/-- The keys a grid point leaves: the normed heads of each memory row's projection. -/
theorem out4_at (M : Vec Ideal S2x256x1024 .f32) (G : Vec Ideal S1x1x1024 .f32) (W : Vec Ideal S1x1024x2048 .bf16) (Q : Vec Ideal S1x1x256 .f32)
    (b : Fin 2) (r : Fin 256) (c : Fin 1024) : out0_4 M G W Q (ix3 b r c)
    = normHead (fun d => proj (fun l => M (ix3 b r l)) (fun l => G (ix3 0 0 l)) (fun l n => W (ix3 0 l n)) (⟨c.val / 256 * 256 + d.val, by omega⟩ : Fin 2048))
        (fun d => Q (ix3 0 0 d)) ⟨c.val % 256, Nat.mod_lt _ (by decide)⟩ := by
  have hG : ∀ l, View.ld G r0_1 (ix3 0 0 l) = G (ix3 0 0 l) := fun l => ld3 G 0 0 0 _ _ _ _ _ _ _ (by simp) (by simp) (by simp)
  have hQ : ∀ l, View.ld Q r0_4 (ix3 0 0 l) = Q (ix3 0 0 l) := fun l => ld3 Q 0 0 0 _ _ _ _ _ _ _ (by simp) (by simp) (by simp)
  have hW : ∀ l n, View.ld W r0_3 (ix3 0 l n) = W (ix3 0 l n) := fun l n => ld3 W 0 0 0 _ _ _ _ _ _ _ (by simp) (by simp) (by simp)
  have hM0 : ∀ r l, View.ld M r0_0 (ix3 0 r l) = M (ix3 0 r l) := fun r l => ld3 M 0 0 0 _ _ _ _ _ _ _ (by simp) (by simp) (by simp)
  have hM1 : ∀ r l, View.ld M r0_2 (ix3 0 r l) = M (ix3 1 r l) := fun r l => ld3 M 1 0 0 _ _ _ _ _ _ _ (by simp) (by simp) (by simp)
  unfold_out out0_4
  canon_tiles x h
  case piece0 =>
    idx_vars x
    obtain rfl : b = 1 := Fin.ext (by have := h0; omega)
    obtain rfl : r = x1 := Fin.ext (by simpa using h1)
    rw [head7_at]
    simp only [kv1_at, hM0, hM1, hG, hW, hQ]
    exact head_col (proj (fun l => M (ix3 1 r l)) (fun l => G (ix3 0 0 l)) (fun l n => W (ix3 0 l n))) _ 3 x2 c (by omega) _
      (fun d' => congrArg _ (Fin.ext (by simp)))
  case piece1 =>
    idx_vars x
    obtain rfl : b = 1 := Fin.ext (by have := h0; omega)
    obtain rfl : r = x1 := Fin.ext (by simpa using h1)
    rw [head6_at]
    simp only [kv1_at, hM0, hM1, hG, hW, hQ]
    exact head_col (proj (fun l => M (ix3 1 r l)) (fun l => G (ix3 0 0 l)) (fun l n => W (ix3 0 l n))) _ 2 x2 c (by omega) _
      (fun d' => congrArg _ (Fin.ext (by simp)))
  case piece2 =>
    idx_vars x
    obtain rfl : b = 1 := Fin.ext (by have := h0; omega)
    obtain rfl : r = x1 := Fin.ext (by simpa using h1)
    rw [head5_at]
    simp only [kv1_at, hM0, hM1, hG, hW, hQ]
    exact head_col (proj (fun l => M (ix3 1 r l)) (fun l => G (ix3 0 0 l)) (fun l n => W (ix3 0 l n))) _ 1 x2 c (by omega) _
      (fun d' => congrArg _ (Fin.ext (by simp)))
  case piece3 =>
    idx_vars x
    obtain rfl : b = 1 := Fin.ext (by have := h0; omega)
    obtain rfl : r = x1 := Fin.ext (by simpa using h1)
    rw [head4_at]
    simp only [kv1_at, hM0, hM1, hG, hW, hQ]
    exact head_col (proj (fun l => M (ix3 1 r l)) (fun l => G (ix3 0 0 l)) (fun l n => W (ix3 0 l n))) _ 0 x2 c (by omega) _
      (fun d' => congrArg _ (Fin.ext (by simp)))
  case piece4 =>
    idx_vars x
    obtain rfl : b = 0 := Fin.ext (by have := h0; omega)
    obtain rfl : r = x1 := Fin.ext (by simpa using h1)
    rw [head3_at]
    simp only [kv0_at, hM0, hM1, hG, hW, hQ]
    exact head_col (proj (fun l => M (ix3 0 r l)) (fun l => G (ix3 0 0 l)) (fun l n => W (ix3 0 l n))) _ 3 x2 c (by omega) _
      (fun d' => congrArg _ (Fin.ext (by simp)))
  case piece5 =>
    idx_vars x
    obtain rfl : b = 0 := Fin.ext (by have := h0; omega)
    obtain rfl : r = x1 := Fin.ext (by simpa using h1)
    rw [head2_at]
    simp only [kv0_at, hM0, hM1, hG, hW, hQ]
    exact head_col (proj (fun l => M (ix3 0 r l)) (fun l => G (ix3 0 0 l)) (fun l n => W (ix3 0 l n))) _ 2 x2 c (by omega) _
      (fun d' => congrArg _ (Fin.ext (by simp)))
  case piece6 =>
    idx_vars x
    obtain rfl : b = 0 := Fin.ext (by have := h0; omega)
    obtain rfl : r = x1 := Fin.ext (by simpa using h1)
    rw [head1_at]
    simp only [kv0_at, hM0, hM1, hG, hW, hQ]
    exact head_col (proj (fun l => M (ix3 0 r l)) (fun l => G (ix3 0 0 l)) (fun l n => W (ix3 0 l n))) _ 1 x2 c (by omega) _
      (fun d' => congrArg _ (Fin.ext (by simp)))
  case piece7 =>
    idx_vars x
    obtain rfl : b = 0 := Fin.ext (by have := h0; omega)
    obtain rfl : r = x1 := Fin.ext (by simpa using h1)
    rw [head0_at]
    simp only [kv0_at, hM0, hM1, hG, hW, hQ]
    exact head_col (proj (fun l => M (ix3 0 r l)) (fun l => G (ix3 0 0 l)) (fun l n => W (ix3 0 l n))) _ 0 x2 c (by omega) _
      (fun d' => congrArg _ (Fin.ext (by simp)))

/-- The values a grid point leaves, transposed. -/
theorem out5_at (M : Vec Ideal S2x256x1024 .f32) (G : Vec Ideal S1x1x1024 .f32) (W : Vec Ideal S1x1024x2048 .bf16) (Q : Vec Ideal S1x1x256 .f32)
    (b : Fin 2) (n : Fin 1024) (r : Fin 256) : out0_5 M G W Q (ix3 b n r)
    = proj (fun l => M (ix3 b r l)) (fun l => G (ix3 0 0 l)) (fun l n => W (ix3 0 l n)) (⟨1024 + n.val, by omega⟩ : Fin 2048) := by
  have hG : ∀ l, View.ld G r0_1 (ix3 0 0 l) = G (ix3 0 0 l) := fun l => ld3 G 0 0 0 _ _ _ _ _ _ _ (by simp) (by simp) (by simp)
  have hW : ∀ l n, View.ld W r0_3 (ix3 0 l n) = W (ix3 0 l n) := fun l n => ld3 W 0 0 0 _ _ _ _ _ _ _ (by simp) (by simp) (by simp)
  have hM0 : ∀ r l, View.ld M r0_0 (ix3 0 r l) = M (ix3 0 r l) := fun r l => ld3 M 0 0 0 _ _ _ _ _ _ _ (by simp) (by simp) (by simp)
  have hM1 : ∀ r l, View.ld M r0_2 (ix3 0 r l) = M (ix3 1 r l) := fun r l => ld3 M 1 0 0 _ _ _ _ _ _ _ (by simp) (by simp) (by simp)
  unfold_out out0_5
  canon_tiles x h
  case piece0 =>
    idx_vars x
    obtain rfl : b = 1 := Fin.ext (by have := h0; omega)
    obtain rfl : n = x1 := Fin.ext (by simpa using h1)
    obtain rfl : r = x2 := Fin.ext (by simpa using h2)
    rw [val1_at]
    simp only [kv1_at, hM0, hM1, hG, hW]
  case piece1 =>
    idx_vars x
    obtain rfl : b = 0 := Fin.ext (by have := h0; omega)
    obtain rfl : n = x1 := Fin.ext (by simpa using h1)
    obtain rfl : r = x2 := Fin.ext (by simpa using h2)
    rw [val0_at]
    simp only [kv0_at, hM0, hM1, hG, hW]
end Cert.XaIdeal.Val
-- ==== Proof.XaAtt.lean ====
module
public import proofs.«01_k».proof.Proof.XaKv
@[expose] public section
set_option maxRecDepth 16384
noncomputable section
/-! The attention units of the cross-attention's second kernel. The kernel holds queries by columns: for each of two
    halves of the rows and each of four heads it makes the scores against all memory rows, their powers of two after
    taking the largest away, and the averaged values. Here each of these is read at an index. -/
namespace Cert.XaIdeal.Val
open Cert.Common Cert.XaIdeal Cert.XaIdeal.Gen Idealize.ShloMosaic Idealize.ShloMosaic.TcCoe Idealize.SL.Sem

/-- The score of one query column `z` with the gain `g` against one memory row `k`: the query is divided by its root
    mean square, and the constant named `qscale` is multiplied in. -/
def scoreOf (z g k : Fin 256 → EReal) : EReal :=
  ∑ x, k x * (z x * (Ideal.rsqrt ((∑ x, z x * z x) * Ideal.ofBits FTy.f32 998244352#32 + Ideal.ofBits FTy.f32 897988541#32)
    * Named.named (F := Ideal) (φ := .f32) κ "qscale" 1035512379#32) * g x)

/-- The power of two of a score after the largest score of the column is taken away. -/
def powOf (s : Fin 256 → EReal) (m : Fin 256) : EReal :=
  FloatOps.exp2 (F := Ideal) (φ := .f32) (s m - Finset.fold max (Ideal.ofBits FTy.f32 4286578688#32) s Finset.univ)

/-- The values `v` averaged with the weights `p`: the weighted sum times the reciprocal of the sum of the weights. -/
def avgOf (p v : Fin 256 → EReal) : EReal := (∑ x, v x * p x) * Ideal.div 1 (∑ x, p x)

/-- A query of the first half of the rows: the row divided by its root mean square, with the gain, projected. -/
theorem q0_at (x : Vec Ideal S1x512x1024 .f32) (W : Vec Ideal S1x1024x1024 .bf16) (w : Vec Ideal S1x1x1024 .f32) (c : Fin 1024) (r : Fin 512) :
    k1_pay4 (F := Ideal) x W w (ix2 c r) = ∑ l : Fin 1024, W (ix3 0 c l) * normRow (fun l => x (ix3 0 r l)) (fun l => w (ix3 0 0 l)) l := by
  unfold normRow
  pointwise [k1_pay4, k1_pay2]
/-- A query of the second half of the rows. -/
theorem q1_at (x : Vec Ideal S1x512x1024 .f32) (W : Vec Ideal S1x1024x1024 .bf16) (w : Vec Ideal S1x1x1024 .f32) (c : Fin 1024) (r : Fin 512) :
    k1_pay8 (F := Ideal) (k1_pay3 x) (k1_pay5 W) (k1_pay6 w) (k1_pay7 x) (ix2 c r)
     = ∑ l : Fin 1024, W (ix3 0 c l) * normRow (fun l => x (ix3 0 r l)) (fun l => w (ix3 0 0 l)) l := by
  unfold normRow
  pointwise [k1_pay8, k1_pay3, k1_pay5, k1_pay6, k1_pay7]
/-- The residual and the output projection, first half of the rows. -/
theorem o0_at (x : Vec Ideal S1x512x1024 .f32) (A : Vec Ideal S1x1024x512 .bf16) (Wo : Vec Ideal S1x1024x1024 .bf16) (r : Fin 512) (c : Fin 1024) :
    k1_pay37 (F := Ideal) (k1_pay2 x) A Wo (ix3 0 r c) = x (ix3 0 r c) + ∑ n, A (ix3 0 n r) * Wo (ix3 0 n c) := by
  pointwise [k1_pay37, k1_pay2]
/-- The residual and the output projection, second half of the rows. -/
theorem o1_at (x : Vec Ideal S1x512x1024 .f32) (A : Vec Ideal S1x1024x512 .bf16) (Wo : Vec Ideal S1x1024x1024 .bf16) (r : Fin 512) (c : Fin 1024) :
    k1_pay1 (F := Ideal) (k1_pay46 (k1_pay3 x) A Wo) (ix3 0 r c) = x (ix3 0 r c) + ∑ n, A (ix3 0 n r) * Wo (ix3 0 n c) := by
  pointwise [k1_pay1, k1_pay46, k1_pay3]
section
variable (z : FVec Ideal S1024x512 .f32) (g : Vec Ideal S1x256x1 .f32) (K U : Vec Ideal S1x256x256 .bf16)
  (s : FVec Ideal S256x512 .f32) (p : FVec Ideal S256x512 .bf16) (m d : Fin 256) (r : Fin 512)
/-- The scores of half 0, head 0. -/
theorem score00_at : k1_pay10 (F := Ideal) z g K (ix2 m r)
    = scoreOf (fun d => z (ix2 ⟨d.val, by omega⟩ r)) (fun d => g (ix3 0 d 0)) (fun d => K (ix3 0 m d)) := by
  unfold scoreOf
  pointwise [k1_pay10]
/-- The scores of half 0, head 1. -/
theorem score01_at : k1_pay12 (F := Ideal) (k1_pay11 z) g K (ix2 m r)
    = scoreOf (fun d => z (ix2 ⟨256 + d.val, by omega⟩ r)) (fun d => g (ix3 0 d 0)) (fun d => K (ix3 0 m d)) := by
  unfold scoreOf
  pointwise [k1_pay11, k1_pay12]
/-- The scores of half 0, head 2. -/
theorem score02_at : k1_pay13 (F := Ideal) z g K (ix2 m r)
    = scoreOf (fun d => z (ix2 ⟨512 + d.val, by omega⟩ r)) (fun d => g (ix3 0 d 0)) (fun d => K (ix3 0 m d)) := by
  unfold scoreOf
  pointwise [k1_pay13]
/-- The scores of half 0, head 3. -/
theorem score03_at : k1_pay17 (F := Ideal) (k1_pay14 z) (k1_pay15 z) k1_pay16 g K (ix2 m r)
    = scoreOf (fun d => z (ix2 ⟨768 + d.val, by omega⟩ r)) (fun d => g (ix3 0 d 0)) (fun d => K (ix3 0 m d)) := by
  unfold scoreOf
  pointwise [k1_pay17, k1_pay14, k1_pay15, k1_pay16]
/-- The scores of half 1, head 0. -/
theorem score10_at : k1_pay18 (F := Ideal) z g K (ix2 m r)
    = scoreOf (fun d => z (ix2 ⟨d.val, by omega⟩ r)) (fun d => g (ix3 0 d 0)) (fun d => K (ix3 0 m d)) := by
  unfold scoreOf
  pointwise [k1_pay18]
/-- The scores of half 1, head 1. -/
theorem score11_at : k1_pay22 (F := Ideal) (k1_pay19 z) (k1_pay20 z) k1_pay21 g K (ix2 m r)
    = scoreOf (fun d => z (ix2 ⟨256 + d.val, by omega⟩ r)) (fun d => g (ix3 0 d 0)) (fun d => K (ix3 0 m d)) := by
  unfold scoreOf
  pointwise [k1_pay22, k1_pay19, k1_pay20, k1_pay21]
/-- The scores of half 1, head 2. -/
theorem score12_at : k1_pay23 (F := Ideal) z g K (ix2 m r)
    = scoreOf (fun d => z (ix2 ⟨512 + d.val, by omega⟩ r)) (fun d => g (ix3 0 d 0)) (fun d => K (ix3 0 m d)) := by
  unfold scoreOf
  pointwise [k1_pay23]
/-- The scores of half 1, head 3. -/
theorem score13_at : k1_pay26 (F := Ideal) (k1_pay24 z) (k1_pay25 z) (Scalar.ofBits .f32 0x3B800000#32) g K (ix2 m r)
    = scoreOf (fun d => z (ix2 ⟨768 + d.val, by omega⟩ r)) (fun d => g (ix3 0 d 0)) (fun d => K (ix3 0 m d)) := by
  unfold scoreOf
  pointwise [k1_pay26, k1_pay24, k1_pay25]
/-- The powers of half 0, head 0. -/
theorem pow00_at : k1_pay27 (F := Ideal) s (ix2 m r) = powOf (fun m => s (ix2 m r)) m := by
  unfold powOf
  pointwise [k1_pay27]
/-- The powers of half 0, head 1. -/
theorem pow01_at : k1_pay28 (F := Ideal) s (ix2 m r) = powOf (fun m => s (ix2 m r)) m := by
  unfold powOf
  pointwise [k1_pay28]
/-- The powers of half 0, head 2. -/
theorem pow02_at : k1_pay29 (F := Ideal) s (ix2 m r) = powOf (fun m => s (ix2 m r)) m := by
  unfold powOf
  pointwise [k1_pay29]
/-- The powers of half 0, head 3. -/
theorem pow03_at : k1_pay30 (F := Ideal) s (ix2 m r) = powOf (fun m => s (ix2 m r)) m := by
  unfold powOf
  pointwise [k1_pay30]
/-- The powers of half 1, head 0. -/
theorem pow10_at : k1_pay38 (F := Ideal) s (ix2 m r) = powOf (fun m => s (ix2 m r)) m := by
  unfold powOf
  pointwise [k1_pay38]
/-- The powers of half 1, head 1. -/
theorem pow11_at : k1_pay39 (F := Ideal) s (ix2 m r) = powOf (fun m => s (ix2 m r)) m := by
  unfold powOf
  pointwise [k1_pay39]
/-- The powers of half 1, head 2. -/
theorem pow12_at : k1_pay40 (F := Ideal) s (ix2 m r) = powOf (fun m => s (ix2 m r)) m := by
  unfold powOf
  pointwise [k1_pay40]
/-- The powers of half 1, head 3. -/
theorem pow13_at : k1_pay41 (F := Ideal) s (ix2 m r) = powOf (fun m => s (ix2 m r)) m := by
  unfold powOf
  pointwise [k1_pay41]
/-- The averaged values of half 0, head 0. -/
theorem avg00_at : k1_pay32 (F := Ideal) p (k1_pay31 k1_pay9 U) (ix3 0 d r) = avgOf (fun m => p (ix2 m r)) (fun m => U (ix3 0 d m)) := by
  unfold avgOf
  pointwise [k1_pay32, k1_pay31, k1_pay9]
/-- The averaged values of half 0, head 1. -/
theorem avg01_at : k1_pay33 (F := Ideal) k1_pay9 p U (ix3 0 d r) = avgOf (fun m => p (ix2 m r)) (fun m => U (ix3 0 d m)) := by
  unfold avgOf
  pointwise [k1_pay33, k1_pay9]
/-- The averaged values of half 0, head 2. -/
theorem avg02_at : k1_pay35 (F := Ideal) (k1_pay34 k1_pay9 p U) (ix3 0 d r) = avgOf (fun m => p (ix2 m r)) (fun m => U (ix3 0 d m)) := by
  unfold avgOf
  pointwise [k1_pay35, k1_pay34, k1_pay9]
/-- The averaged values of half 0, head 3. -/
theorem avg03_at : k1_pay36 (F := Ideal) k1_pay9 p U (ix3 0 d r) = avgOf (fun m => p (ix2 m r)) (fun m => U (ix3 0 d m)) := by
  unfold avgOf
  pointwise [k1_pay36, k1_pay9]
/-- The averaged values of half 1, head 0. -/
theorem avg10_at : k1_pay42 (F := Ideal) k1_pay9 p U (ix3 0 d r) = avgOf (fun m => p (ix2 m r)) (fun m => U (ix3 0 d m)) := by
  unfold avgOf
  pointwise [k1_pay42, k1_pay9]
/-- The averaged values of half 1, head 1. -/
theorem avg11_at : k1_pay43 (F := Ideal) k1_pay9 p U (ix3 0 d r) = avgOf (fun m => p (ix2 m r)) (fun m => U (ix3 0 d m)) := by
  unfold avgOf
  pointwise [k1_pay43, k1_pay9]
/-- The averaged values of half 1, head 2. -/
theorem avg12_at : k1_pay44 (F := Ideal) k1_pay9 p U (ix3 0 d r) = avgOf (fun m => p (ix2 m r)) (fun m => U (ix3 0 d m)) := by
  unfold avgOf
  pointwise [k1_pay44, k1_pay9]
/-- The averaged values of half 1, head 3. -/
theorem avg13_at : k1_pay45 (F := Ideal) k1_pay9 p U (ix3 0 d r) = avgOf (fun m => p (ix2 m r)) (fun m => U (ix3 0 d m)) := by
  unfold avgOf
  pointwise [k1_pay45, k1_pay9]
end
end Cert.XaIdeal.Val
-- ==== Proof.XaBlock.lean ====
module
public import proofs.«01_k».proof.Proof.XaAtt
@[expose] public section
set_option maxRecDepth 16384
noncomputable section
/-! The cross-attention's second kernel: what one grid point leaves in its output block, as a formula over the point's
    input blocks. -/
namespace Cert.XaIdeal.Val
open Cert.Common Cert.XaIdeal Cert.XaIdeal.Gen Idealize.ShloMosaic Idealize.ShloMosaic.TcCoe Idealize.SL.Sem

/-- The column of the head that column `n` lies in. -/
def headCol (n : Fin 1024) (d : Fin 256) : Fin 1024 := ⟨n.val / 256 * 256 + d.val, by omega⟩

/-- One query row `q` attends to the memory: column `n` of the averaged values. -/
def attRow (q : Fin 1024 → EReal) (g : Fin 256 → EReal) (K : Fin 256 → Fin 1024 → EReal) (U : Fin 1024 → Fin 256 → EReal)
    (n : Fin 1024) : EReal :=
  avgOf (powOf fun m => scoreOf (fun d => q (headCol n d)) g (fun d => K m (headCol n d))) (U n)

/-- The query projection of one row, by columns. -/
def projT (x w : Fin 1024 → EReal) (W : Fin 1024 → Fin 1024 → EReal) (c : Fin 1024) : EReal :=
  ∑ l : Fin 1024, W c l * normRow x w l

/-- One row of the second kernel's output. -/
def xaRow (x w : Fin 1024 → EReal) (Wq : Fin 1024 → Fin 1024 → EReal) (g : Fin 256 → EReal) (K : Fin 256 → Fin 1024 → EReal)
    (U : Fin 1024 → Fin 256 → EReal) (Wo : Fin 1024 → Fin 1024 → EReal) (c : Fin 1024) : EReal :=
  x c + ∑ n, attRow (projT x w Wq) g K U n * Wo n c

/-- A row outside a rectangle of rows of the scratch is not in it. -/
theorem row_out {y : S2x1024x512.Idx} (o k : ℕ) (inb) (h : (y 1).val < k ∨ k + 256 ≤ (y 1).val) :
    y ∉ (Rect.unit (s := S2x1024x512) ![o, k, 0] ![1, 256, 512] inb).set := by
  intro hy
  obtain ⟨j, hj, e⟩ := (LoadRect.mem_set _).mp hy 1
  have e' : (y 1).val = k + 1 * j := e
  have hj' : j < 256 := hj
  omega

/-- A row below a rectangle of rows of the scratch reads what was stored before. -/
theorem row_skip {y : S2x1024x512.Idx} (o k : ℕ) (inb) (A : Vec Ideal S1x256x512 .bf16) (L : List (View.Piece (Elt Ideal) S2x1024x512 .bf16))
    (h : (y 1).val < k) : View.canon (⟨Rect.unit (s := S2x1024x512) ![o, k, 0] ![1, 256, 512] inb, A⟩ :: L) y = View.canon L y :=
  View.canon_cons_of_not_mem _ _ (row_out o k inb (Or.inl h))

/-- A row inside a rectangle of rows of the scratch reads what the rectangle holds there. -/
theorem row_in {y : S2x1024x512.Idx} (o k : ℕ) (inb) (A : Vec Ideal S1x256x512 .bf16) (L : List (View.Piece (Elt Ideal) S2x1024x512 .bf16))
    (d : Fin 256) (r : Fin 512) (h0 : (y 0).val = o) (h1 : (y 1).val = k + d.val) (h2 : (y 2).val = r.val) :
    View.canon (⟨Rect.unit (s := S2x1024x512) ![o, k, 0] ![1, 256, 512] inb, A⟩ :: L) y = A (ix3 0 d r) := by
  obtain rfl : y = (Rect.unit (s := S2x1024x512) ![o, k, 0] ![1, 256, 512] inb).emb (ix3 0 d r) := by
    funext a
    refine Fin.ext ?_
    rw [ValueKit.rect_emb_unit_val]
    match a with
    | ⟨0, _⟩ => exact h0
    | ⟨1, _⟩ => exact h1
    | ⟨2, _⟩ => exact h2.trans (Nat.zero_add _).symm
  exact View.canon_cons_emb _ _ _ _

section
variable (o : ℕ) (inb inb0 inb1 inb2 inb3) (A0 A1 A2 A3 : Vec Ideal S1x256x512 .bf16) (G : Fin 1024 → Fin 512 → EReal)
  (L : List (View.Piece (Elt Ideal) S2x1024x512 .bf16))
  (h0 : ∀ (d : Fin 256) (r : Fin 512), A0 (ix3 0 d r) = G ⟨d.val, by omega⟩ r)
  (h1 : ∀ (d : Fin 256) (r : Fin 512), A1 (ix3 0 d r) = G ⟨256 + d.val, by omega⟩ r)
  (h2 : ∀ (d : Fin 256) (r : Fin 512), A2 (ix3 0 d r) = G ⟨512 + d.val, by omega⟩ r)
  (h3 : ∀ (d : Fin 256) (r : Fin 512), A3 (ix3 0 d r) = G ⟨768 + d.val, by omega⟩ r) (n : Fin 1024) (r : Fin 512)
include h0 h1 h2 h3
/-- A row of a slab lies in one of the four rectangles last stored in it. -/
theorem slab_canon {y : S2x1024x512.Idx} (e0 : (y 0).val = o) (e1 : (y 1).val = n.val) (e2 : (y 2).val = r.val) :
    View.canon (⟨Rect.unit (s := S2x1024x512) ![o, 768, 0] ![1, 256, 512] inb3, A3⟩ ::
      ⟨Rect.unit (s := S2x1024x512) ![o, 512, 0] ![1, 256, 512] inb2, A2⟩ :: ⟨Rect.unit (s := S2x1024x512) ![o, 256, 0] ![1, 256, 512] inb1, A1⟩ ::
      ⟨Rect.unit (s := S2x1024x512) ![o, 0, 0] ![1, 256, 512] inb0, A0⟩ :: L) y = G n r := by
  obtain ⟨n, hn⟩ := n
  have e1 : (y 1).val = n := e1
  have lo : ∀ k, ¬ k ≤ n → (y 1).val < k := fun k h => e1.trans_lt (Nat.lt_of_not_le h)
  by_cases c3 : 768 ≤ n
  · have e : n = 768 + (n - 768) := (Nat.add_sub_cancel' c3).symm
    exact (row_in o 768 inb3 A3 _ ⟨n - 768, by clear * - hn c3; omega⟩ r e0 (e1.trans e) e2).trans
      ((h3 _ _).trans (congrArg (fun n => G n r) (Fin.ext e.symm)))
  refine (row_skip o 768 inb3 A3 _ (lo _ c3)).trans ?_
  by_cases c2 : 512 ≤ n
  · have e : n = 512 + (n - 512) := (Nat.add_sub_cancel' c2).symm
    exact (row_in o 512 inb2 A2 _ ⟨n - 512, by clear * - hn c2 c3; omega⟩ r e0 (e1.trans e) e2).trans
      ((h2 _ _).trans (congrArg (fun n => G n r) (Fin.ext e.symm)))
  refine (row_skip o 512 inb2 A2 _ (lo _ c2)).trans ?_
  by_cases c1 : 256 ≤ n
  · have e : n = 256 + (n - 256) := (Nat.add_sub_cancel' c1).symm
    exact (row_in o 256 inb1 A1 _ ⟨n - 256, by clear * - hn c1 c2 c3; omega⟩ r e0 (e1.trans e) e2).trans
      ((h1 _ _).trans (congrArg (fun n => G n r) (Fin.ext e.symm)))
  refine (row_skip o 256 inb1 A1 _ (lo _ c1)).trans ?_
  exact (row_in o 0 inb0 A0 _ ⟨n, Nat.lt_of_not_le c1⟩ r e0 (e1.trans (Nat.zero_add _).symm) e2).trans (h0 _ _)

/-- A whole slab of the scratch is read back from the four rectangles of rows last stored in it. -/
theorem slab :
    (View.whole cc1_scratch0).readCov (⟨Rect.unit (s := S2x1024x512) ![o, 768, 0] ![1, 256, 512] inb3, A3⟩ ::
      ⟨Rect.unit (s := S2x1024x512) ![o, 512, 0] ![1, 256, 512] inb2, A2⟩ :: ⟨Rect.unit (s := S2x1024x512) ![o, 256, 0] ![1, 256, 512] inb1, A1⟩ ::
      ⟨Rect.unit (s := S2x1024x512) ![o, 0, 0] ![1, 256, 512] inb0, A0⟩ :: L) (Rect.unit (s := S2x1024x512) ![o, 0, 0] ![1, 1024, 512] inb).toLoadRect (ix3 0 n r)
      = G n r := by
  refine (congrFun (View.readCov_eq_canon' _ _ _) _).trans (slab_canon o inb0 inb1 inb2 inb3 A0 A1 A2 A3 G L h0 h1 h2 h3 n r ?_ ?_ ?_)
  · exact ValueKit.rect_emb_unit_val (s := S2x1024x512) ![o, 0, 0] ![1, 1024, 512] inb (ix3 0 n r) 0
  · exact (ValueKit.rect_emb_unit_val (s := S2x1024x512) ![o, 0, 0] ![1, 1024, 512] inb (ix3 0 n r) 1).trans (Nat.zero_add _)
  · exact (ValueKit.rect_emb_unit_val (s := S2x1024x512) ![o, 0, 0] ![1, 1024, 512] inb (ix3 0 n r) 2).trans (Nat.zero_add _)
end
/-! ## The eight units -/
section
variable (z : FVec Ideal S1024x512 .f32) (g : Vec Ideal S1x256x1 .f32) (K : Vec Ideal S1x256x1024 .bf16) (U : Vec Ideal S1x1024x256 .bf16)
  (d : Fin 256) (r : Fin 512)

/-- One unit from its parts: what is left to show is which columns it reads. -/
theorem unit_eq (k : ℕ) (hk : k < 4) (inbK inbU) (zk : Fin 256 → EReal) (n : Fin 1024) (hn : n.val = k * 256 + d.val)
    (hz : ∀ x (c : Fin 1024), c.val = k * 256 + x.val → zk x = z (ix2 c r)) :
    avgOf (powOf fun m => scoreOf zk (fun d => g (ix3 0 d 0))
        (fun d => View.ld K (Rect.unit (s := S1x256x1024) ![0, 0, k * 256] ![1, 256, 256] inbK) (ix3 0 m d)))
      (fun m => View.ld U (Rect.unit (s := S1x1024x256) ![0, k * 256, 0] ![1, 256, 256] inbU) (ix3 0 d m))
      = attRow (fun c => z (ix2 c r)) (fun d => g (ix3 0 d 0)) (fun m c => K (ix3 0 m c)) (fun n m => U (ix3 0 n m)) n := by
  have hcol : ∀ x : Fin 256, (headCol n x).val = k * 256 + x.val := fun x => by
    show n.val / 256 * 256 + x.val = _
    omega
  unfold attRow
  have e1 : ∀ m x : Fin 256, View.ld K (Rect.unit (s := S1x256x1024) ![0, 0, k * 256] ![1, 256, 256] inbK) (ix3 0 m x) = K (ix3 0 m (headCol n x)) :=
    fun m x => ld3 K 0 0 (k * 256) inbK 0 m x 0 m (headCol n x) rfl (Nat.zero_add _).symm (hcol x)
  have e2 : ∀ m : Fin 256, View.ld U (Rect.unit (s := S1x1024x256) ![0, k * 256, 0] ![1, 256, 256] inbU) (ix3 0 d m) = U (ix3 0 n m) :=
    fun m => ld3 U 0 (k * 256) 0 inbU 0 d m 0 n m rfl hn (Nat.zero_add _).symm
  have e3 : zk = fun x => z (ix2 (headCol n x) r) := funext fun x => hz x _ (hcol x)
  simp only [e1, e2, e3]
/-- Half 0, head 0. -/
theorem unit00 : k1_pay32 (F := Ideal) (k1_pay27 (k1_pay10 z g (View.ld K (Rect.unit ![0, 0, 0] ![1, 256, 256] inb_S1x256x1024_S1x256x256_0_0_0)))) (k1_pay31 k1_pay9 (View.ld U (Rect.unit ![0, 0, 0] ![1, 256, 256] inb_S1x1024x256_S1x256x256_0_0_0))) (ix3 0 d r)
    = attRow (fun c => z (ix2 c r)) (fun d => g (ix3 0 d 0)) (fun m c => K (ix3 0 m c)) (fun n m => U (ix3 0 n m)) ⟨d.val, by omega⟩ := by
  rw [avg00_at]
  simp only [pow00_at, score00_at]
  exact unit_eq z g K U d r 0 (by decide) _ _ _ _ (by simp) fun x c hc => congrArg (fun c => z (ix2 c r)) (Fin.ext (by simp [hc]))
/-- Half 0, head 1. -/
theorem unit01 : k1_pay33 (F := Ideal) k1_pay9 (k1_pay28 (k1_pay12 (k1_pay11 z) g (View.ld K (Rect.unit ![0, 0, 256] ![1, 256, 256] inb_S1x256x1024_S1x256x256_0_0_256)))) (View.ld U (Rect.unit ![0, 256, 0] ![1, 256, 256] inb_S1x1024x256_S1x256x256_0_256_0)) (ix3 0 d r)
    = attRow (fun c => z (ix2 c r)) (fun d => g (ix3 0 d 0)) (fun m c => K (ix3 0 m c)) (fun n m => U (ix3 0 n m)) ⟨256 + d.val, by omega⟩ := by
  rw [avg01_at]
  simp only [pow01_at, score01_at]
  exact unit_eq z g K U d r 1 (by decide) _ _ _ _ (by simp) fun x c hc => congrArg (fun c => z (ix2 c r)) (Fin.ext (by simp [hc]))
/-- Half 0, head 2. -/
theorem unit02 : k1_pay35 (F := Ideal) (k1_pay34 k1_pay9 (k1_pay29 (k1_pay13 z g (View.ld K (Rect.unit ![0, 0, 512] ![1, 256, 256] inb_S1x256x1024_S1x256x256_0_0_512)))) (View.ld U (Rect.unit ![0, 512, 0] ![1, 256, 256] inb_S1x1024x256_S1x256x256_0_512_0))) (ix3 0 d r)
    = attRow (fun c => z (ix2 c r)) (fun d => g (ix3 0 d 0)) (fun m c => K (ix3 0 m c)) (fun n m => U (ix3 0 n m)) ⟨512 + d.val, by omega⟩ := by
  rw [avg02_at]
  simp only [pow02_at, score02_at]
  exact unit_eq z g K U d r 2 (by decide) _ _ _ _ (by simp) fun x c hc => congrArg (fun c => z (ix2 c r)) (Fin.ext (by simp [hc]))
/-- Half 0, head 3. -/
theorem unit03 : k1_pay36 (F := Ideal) k1_pay9 (k1_pay30 (k1_pay17 (k1_pay14 z) (k1_pay15 z) k1_pay16 g (View.ld K (Rect.unit ![0, 0, 768] ![1, 256, 256] inb_S1x256x1024_S1x256x256_0_0_768)))) (View.ld U (Rect.unit ![0, 768, 0] ![1, 256, 256] inb_S1x1024x256_S1x256x256_0_768_0)) (ix3 0 d r)
    = attRow (fun c => z (ix2 c r)) (fun d => g (ix3 0 d 0)) (fun m c => K (ix3 0 m c)) (fun n m => U (ix3 0 n m)) ⟨768 + d.val, by omega⟩ := by
  rw [avg03_at]
  simp only [pow03_at, score03_at]
  exact unit_eq z g K U d r 3 (by decide) _ _ _ _ (by simp) fun x c hc => congrArg (fun c => z (ix2 c r)) (Fin.ext (by simp [hc]))
/-- Half 1, head 0. -/
theorem unit10 : k1_pay42 (F := Ideal) k1_pay9 (k1_pay38 (k1_pay18 z g (View.ld K (Rect.unit ![0, 0, 0] ![1, 256, 256] inb_S1x256x1024_S1x256x256_0_0_0)))) (View.ld U (Rect.unit ![0, 0, 0] ![1, 256, 256] inb_S1x1024x256_S1x256x256_0_0_0)) (ix3 0 d r)
    = attRow (fun c => z (ix2 c r)) (fun d => g (ix3 0 d 0)) (fun m c => K (ix3 0 m c)) (fun n m => U (ix3 0 n m)) ⟨d.val, by omega⟩ := by
  rw [avg10_at]
  simp only [pow10_at, score10_at]
  exact unit_eq z g K U d r 0 (by decide) _ _ _ _ (by simp) fun x c hc => congrArg (fun c => z (ix2 c r)) (Fin.ext (by simp [hc]))
/-- Half 1, head 1. -/
theorem unit11 : k1_pay43 (F := Ideal) k1_pay9 (k1_pay39 (k1_pay22 (k1_pay19 z) (k1_pay20 z) k1_pay21 g (View.ld K (Rect.unit ![0, 0, 256] ![1, 256, 256] inb_S1x256x1024_S1x256x256_0_0_256)))) (View.ld U (Rect.unit ![0, 256, 0] ![1, 256, 256] inb_S1x1024x256_S1x256x256_0_256_0)) (ix3 0 d r)
    = attRow (fun c => z (ix2 c r)) (fun d => g (ix3 0 d 0)) (fun m c => K (ix3 0 m c)) (fun n m => U (ix3 0 n m)) ⟨256 + d.val, by omega⟩ := by
  rw [avg11_at]
  simp only [pow11_at, score11_at]
  exact unit_eq z g K U d r 1 (by decide) _ _ _ _ (by simp) fun x c hc => congrArg (fun c => z (ix2 c r)) (Fin.ext (by simp [hc]))
/-- Half 1, head 2. -/
theorem unit12 : k1_pay44 (F := Ideal) k1_pay9 (k1_pay40 (k1_pay23 z g (View.ld K (Rect.unit ![0, 0, 512] ![1, 256, 256] inb_S1x256x1024_S1x256x256_0_0_512)))) (View.ld U (Rect.unit ![0, 512, 0] ![1, 256, 256] inb_S1x1024x256_S1x256x256_0_512_0)) (ix3 0 d r)
    = attRow (fun c => z (ix2 c r)) (fun d => g (ix3 0 d 0)) (fun m c => K (ix3 0 m c)) (fun n m => U (ix3 0 n m)) ⟨512 + d.val, by omega⟩ := by
  rw [avg12_at]
  simp only [pow12_at, score12_at]
  exact unit_eq z g K U d r 2 (by decide) _ _ _ _ (by simp) fun x c hc => congrArg (fun c => z (ix2 c r)) (Fin.ext (by simp [hc]))
/-- Half 1, head 3. -/
theorem unit13 : k1_pay45 (F := Ideal) k1_pay9 (k1_pay41 (k1_pay26 (k1_pay24 z) (k1_pay25 z) (Scalar.ofBits .f32 0x3B800000#32) g (View.ld K (Rect.unit ![0, 0, 768] ![1, 256, 256] inb_S1x256x1024_S1x256x256_0_0_768)))) (View.ld U (Rect.unit ![0, 768, 0] ![1, 256, 256] inb_S1x1024x256_S1x256x256_0_768_0)) (ix3 0 d r)
    = attRow (fun c => z (ix2 c r)) (fun d => g (ix3 0 d 0)) (fun m c => K (ix3 0 m c)) (fun n m => U (ix3 0 n m)) ⟨768 + d.val, by omega⟩ := by
  rw [avg13_at]
  simp only [pow13_at, score13_at]
  exact unit_eq z g K U d r 3 (by decide) _ _ _ _ (by simp) fun x c hc => congrArg (fun c => z (ix2 c r)) (Fin.ext (by simp [hc]))
/-- The slab of half 0 holds the attended rows. -/
theorem slab0 (L : List (View.Piece (Elt Ideal) S2x1024x512 .bf16)) (n : Fin 1024) :
    (View.whole cc1_scratch0).readCov (⟨Rect.unit (s := S2x1024x512) ![0, 768, 0] ![1, 256, 512] inb_S2x1024x512_S1x256x512_0_768_0, k1_pay36 k1_pay9 (k1_pay30 (k1_pay17 (k1_pay14 z) (k1_pay15 z) k1_pay16 g (View.ld K (Rect.unit ![0, 0, 768] ![1, 256, 256] inb_S1x256x1024_S1x256x256_0_0_768)))) (View.ld U (Rect.unit ![0, 768, 0] ![1, 256, 256] inb_S1x1024x256_S1x256x256_0_768_0))⟩ ::
      ⟨Rect.unit (s := S2x1024x512) ![0, 512, 0] ![1, 256, 512] inb_S2x1024x512_S1x256x512_0_512_0, k1_pay35 (k1_pay34 k1_pay9 (k1_pay29 (k1_pay13 z g (View.ld K (Rect.unit ![0, 0, 512] ![1, 256, 256] inb_S1x256x1024_S1x256x256_0_0_512)))) (View.ld U (Rect.unit ![0, 512, 0] ![1, 256, 256] inb_S1x1024x256_S1x256x256_0_512_0)))⟩ ::
      ⟨Rect.unit (s := S2x1024x512) ![0, 256, 0] ![1, 256, 512] inb_S2x1024x512_S1x256x512_0_256_0, k1_pay33 k1_pay9 (k1_pay28 (k1_pay12 (k1_pay11 z) g (View.ld K (Rect.unit ![0, 0, 256] ![1, 256, 256] inb_S1x256x1024_S1x256x256_0_0_256)))) (View.ld U (Rect.unit ![0, 256, 0] ![1, 256, 256] inb_S1x1024x256_S1x256x256_0_256_0))⟩ ::
      ⟨Rect.unit (s := S2x1024x512) ![0, 0, 0] ![1, 256, 512] inb_S2x1024x512_S1x256x512_0_0_0, k1_pay32 (k1_pay27 (k1_pay10 z g (View.ld K (Rect.unit ![0, 0, 0] ![1, 256, 256] inb_S1x256x1024_S1x256x256_0_0_0)))) (k1_pay31 k1_pay9 (View.ld U (Rect.unit ![0, 0, 0] ![1, 256, 256] inb_S1x1024x256_S1x256x256_0_0_0)))⟩ :: L)
      (Rect.unit (s := S2x1024x512) ![0, 0, 0] ![1, 1024, 512] inb_S2x1024x512_S1x1024x512_0_0_0).toLoadRect (ix3 0 n r)
      = attRow (fun c => z (ix2 c r)) (fun d => g (ix3 0 d 0)) (fun m c => K (ix3 0 m c)) (fun n m => U (ix3 0 n m)) n :=
  slab 0 _ _ _ _ _ _ _ _ _
    (fun n r => attRow (fun c => z (ix2 c r)) (fun d => g (ix3 0 d 0)) (fun m c => K (ix3 0 m c)) (fun n m => U (ix3 0 n m)) n) L
    (unit00 z g K U) (unit01 z g K U) (unit02 z g K U) (unit03 z g K U) n r
/-- The slab of half 1 holds the attended rows. -/
theorem slab1 (L : List (View.Piece (Elt Ideal) S2x1024x512 .bf16)) (n : Fin 1024) :
    (View.whole cc1_scratch0).readCov (⟨Rect.unit (s := S2x1024x512) ![1, 768, 0] ![1, 256, 512] inb_S2x1024x512_S1x256x512_1_768_0, k1_pay45 k1_pay9 (k1_pay41 (k1_pay26 (k1_pay24 z) (k1_pay25 z) (Scalar.ofBits .f32 0x3B800000#32) g (View.ld K (Rect.unit ![0, 0, 768] ![1, 256, 256] inb_S1x256x1024_S1x256x256_0_0_768)))) (View.ld U (Rect.unit ![0, 768, 0] ![1, 256, 256] inb_S1x1024x256_S1x256x256_0_768_0))⟩ ::
      ⟨Rect.unit (s := S2x1024x512) ![1, 512, 0] ![1, 256, 512] inb_S2x1024x512_S1x256x512_1_512_0, k1_pay44 k1_pay9 (k1_pay40 (k1_pay23 z g (View.ld K (Rect.unit ![0, 0, 512] ![1, 256, 256] inb_S1x256x1024_S1x256x256_0_0_512)))) (View.ld U (Rect.unit ![0, 512, 0] ![1, 256, 256] inb_S1x1024x256_S1x256x256_0_512_0))⟩ ::
      ⟨Rect.unit (s := S2x1024x512) ![1, 256, 0] ![1, 256, 512] inb_S2x1024x512_S1x256x512_1_256_0, k1_pay43 k1_pay9 (k1_pay39 (k1_pay22 (k1_pay19 z) (k1_pay20 z) k1_pay21 g (View.ld K (Rect.unit ![0, 0, 256] ![1, 256, 256] inb_S1x256x1024_S1x256x256_0_0_256)))) (View.ld U (Rect.unit ![0, 256, 0] ![1, 256, 256] inb_S1x1024x256_S1x256x256_0_256_0))⟩ ::
      ⟨Rect.unit (s := S2x1024x512) ![1, 0, 0] ![1, 256, 512] inb_S2x1024x512_S1x256x512_1_0_0, k1_pay42 k1_pay9 (k1_pay38 (k1_pay18 z g (View.ld K (Rect.unit ![0, 0, 0] ![1, 256, 256] inb_S1x256x1024_S1x256x256_0_0_0)))) (View.ld U (Rect.unit ![0, 0, 0] ![1, 256, 256] inb_S1x1024x256_S1x256x256_0_0_0))⟩ :: L)
      (Rect.unit (s := S2x1024x512) ![1, 0, 0] ![1, 1024, 512] inb_S2x1024x512_S1x1024x512_1_0_0).toLoadRect (ix3 0 n r)
      = attRow (fun c => z (ix2 c r)) (fun d => g (ix3 0 d 0)) (fun m c => K (ix3 0 m c)) (fun n m => U (ix3 0 n m)) n :=
  slab 1 _ _ _ _ _ _ _ _ _
    (fun n r => attRow (fun c => z (ix2 c r)) (fun d => g (ix3 0 d 0)) (fun m c => K (ix3 0 m c)) (fun n m => U (ix3 0 n m)) n) L
    (unit10 z g K U) (unit11 z g K U) (unit12 z g K U) (unit13 z g K U) n r
end

variable (V : (c : Dev nD) → (b : Ref sig .tc) → Buf (Elt Ideal) ((c : Thread nD τ).loc b))

set_option maxHeartbeats 2000000 in
/-- A grid point's block of the output: each row is the row of the input it reads, attended and projected. -/
theorem outs_at (c : Dev nD) (t : Fin cfg1.N) (r c' : Fin 1024) :
    outsAt1 V c t (ix3 0 r c') = xaRow (fun l => iblk1 V c 0 t (ix3 0 r l)) (fun l => iblk1 V c 1 t (ix3 0 0 l))
      (fun n l => iblk1 V c 2 t (ix3 0 n l)) (fun d => iblk1 V c 3 t (ix3 0 d 0)) (fun m n => iblk1 V c 4 t (ix3 0 m n))
      (fun n m => iblk1 V c 5 t (ix3 0 n m)) (fun n l => iblk1 V c 6 t (ix3 0 n l)) c' := by
  unfold outsAt1
  frame_out
  obtain ⟨X, hX⟩ : ∃ X : Vec Ideal S1x1024x1024 .f32, X = iblk1 V c 0 t := ⟨_, rfl⟩
  obtain ⟨w, hw⟩ : ∃ w : Vec Ideal S1x1x1024 .f32, w = iblk1 V c 1 t := ⟨_, rfl⟩
  obtain ⟨Wq, hWq⟩ : ∃ W : Vec Ideal S1x1024x1024 .bf16, W = iblk1 V c 2 t := ⟨_, rfl⟩
  obtain ⟨g, hg⟩ : ∃ W : Vec Ideal S1x256x1 .f32, W = iblk1 V c 3 t := ⟨_, rfl⟩
  obtain ⟨K, hK⟩ : ∃ W : Vec Ideal S1x256x1024 .bf16, W = iblk1 V c 4 t := ⟨_, rfl⟩
  obtain ⟨U, hU⟩ : ∃ W : Vec Ideal S1x1024x256 .bf16, W = iblk1 V c 5 t := ⟨_, rfl⟩
  obtain ⟨Wo, hWo⟩ : ∃ W : Vec Ideal S1x1024x1024 .bf16, W = iblk1 V c 6 t := ⟨_, rfl⟩
  rw [← hX, ← hw, ← hWq, ← hg, ← hK, ← hU, ← hWo]
  clear hX hw hWq hg hK hU hWo
  canon_tiles x h
  case piece0 =>
    idx_vars x
    obtain rfl : r = ⟨512 + x1.val, Nat.add_lt_add_left x1_lt 512⟩ := Fin.ext h1
    obtain rfl : c' = x2 := Fin.ext (by simpa using h2)
    obtain rfl : x0 = 0 := Subsingleton.elim _ _
    have hx : ∀ k, View.ld X (Rect.unit ![0, 512, 0] ![1, 512, 1024] inb_S1x1024x1024_S1x512x1024_0_512_0) (ix3 0 x1 k)
        = X (ix3 0 ⟨512 + x1.val, Nat.add_lt_add_left x1_lt 512⟩ k) := fun k => ld3 X 0 512 0 _ _ _ _ _ _ _ rfl rfl (by simp)
    rw [o1_at]
    unfold xaRow
    rw [hx]
    refine congrArg (_ + ·) (Finset.sum_congr rfl fun n _ => congrArg (· * _) ?_)
    refine (slab1 _ g K U x1 _ n).trans ?_
    simp only [q1_at, hx]
    rfl
  case piece1 =>
    idx_vars x
    obtain rfl : r = ⟨x1.val, lt_of_lt_of_le x1_lt (by decide)⟩ := Fin.ext (by simpa using h1)
    obtain rfl : c' = x2 := Fin.ext (by simpa using h2)
    obtain rfl : x0 = 0 := Subsingleton.elim _ _
    have hx : ∀ k, View.ld X (Rect.unit ![0, 0, 0] ![1, 512, 1024] inb_S1x1024x1024_S1x512x1024_0_0_0) (ix3 0 x1 k)
        = X (ix3 0 ⟨x1.val, lt_of_lt_of_le x1_lt (by decide)⟩ k) := fun k => ld3 X 0 0 0 _ _ _ _ _ _ _ rfl (by simp) (by simp)
    rw [o0_at]
    unfold xaRow
    rw [hx]
    refine congrArg (_ + ·) (Finset.sum_congr rfl fun n _ => congrArg (· * _) ?_)
    refine (slab0 _ g K U x1 _ n).trans ?_
    simp only [q0_at, hx]
    rfl
end Cert.XaIdeal.Val
-- ==== Proof.XaArrays.lean ====
module
public import proofs.«01_k».proof.Proof.XaBlock
public import Idealize.ShloMosaic.Lib.Pipeline.Value
@[expose] public section
set_option maxRecDepth 16384
noncomputable section
/-! The arrays of the cross-attention program as functions of its arguments: the keys and values the first kernel leaves,
    and the result the second one leaves. -/
namespace Cert.XaIdeal.Val
open Cert.Common Cert.XaIdeal Cert.XaIdeal.Gen Idealize.ShloMosaic Idealize.ShloMosaic.TcCoe Idealize.SL.Sem
variable (m : (ℓ : Loc nD τ sig) → Buf (Elt Ideal) ℓ) (ρ : Dev nD → PrngReg) (c : Dev nD)

/-- The keys: every memory row divided by its root mean square, with the gain, projected, and each head of the
    projection divided by its own root mean square, with the gain. -/
def keys (M : Vec Ideal S16x256x1024 .f32) (G : Vec Ideal S2x1024 .f32) (W : Vec Ideal S2x1024x2048 .f32) (Q : Vec Ideal S2x256 .f32) :
    Vec Ideal S16x256x1024 .bf16 := fun i =>
  normHead (fun d => proj (fun l => M (ix3 (i 0) (i 1) l)) (fun l => G (ix2 0 l)) (fun l n => W (ix3 0 l n))
    (⟨(i 2).val / 256 * 256 + d.val, by have : (i 2).val < 1024 := (i 2).isLt; omega⟩ : Fin 2048)) (fun d => Q (ix2 0 d))
    ⟨(i 2).val % 256, Nat.mod_lt _ (by decide)⟩

/-- The values, by columns. -/
def vals (M : Vec Ideal S16x256x1024 .f32) (G : Vec Ideal S2x1024 .f32) (W : Vec Ideal S2x1024x2048 .f32) : Vec Ideal S16x1024x256 .bf16 := fun i =>
  proj (fun l => M (ix3 (i 0) (i 2) l)) (fun l => G (ix2 0 l)) (fun l n => W (ix3 0 l n))
    (⟨1024 + (i 1).val, by have : (i 1).val < 1024 := (i 1).isLt; omega⟩ : Fin 2048)

/-- The memory is as launched when the first kernel starts. -/
theorem e1_arg1 : V1 m ρ c main_arg1 = m ((c : Thread nD τ).loc main_arg1) := W1_args m ρ c main_arg1 (by decide)
/-- The memory gain the first kernel reads. -/
theorem e1_v4 (l : Fin 1024) : V1 m ρ c main_v4 (ix3 0 0 l) = m ((c : Thread nD τ).loc main_arg2) (ix2 0 l) := by
  show StableHlo.after hostOps0 (W0 m ρ c) _ _ = _
  after_results
  pointwise []
/-- The key and value projection the first kernel reads. -/
theorem e1_v2 (l : Fin 1024) (n : Fin 2048) : V1 m ρ c main_v2 (ix3 0 l n) = m ((c : Thread nD τ).loc main_arg5) (ix3 0 l n) := by
  show StableHlo.after hostOps0 (W0 m ρ c) _ _ = _
  after_results
  pointwise []
/-- The key gain the first kernel reads. -/
theorem e1_v5 (d : Fin 256) : V1 m ρ c main_v5 (ix3 0 0 d) = m ((c : Thread nD τ).loc main_arg7) (ix2 0 d) := by
  show StableHlo.after hostOps0 (W0 m ρ c) _ _ = _
  after_results
  pointwise []
/-- Which block each window of the first kernel reads or writes at a grid point. -/
theorem idx0 : ∀ t : Fin cfg0.N, win0_0.index t = ![t.val, 0, 0] ∧ win0_1.index t = ![0, 0, 0] ∧ win0_2.index t = ![0, 0, 0]
    ∧ win0_3.index t = ![0, 0, 0] ∧ win0_4.index t = ![t.val, 0, 0] ∧ win0_5.index t = ![t.val, 0, 0] :=
  (by decide +kernel : ∀ t : Fin grid0.N, _)

section
variable (t : Fin cfg0.N) (ht : t.val < 8)
/-- The first kernel's block of the memory. -/
theorem blk0_0 (b : Fin 2) (r : Fin 256) (l : Fin 1024) :
    iblk0 (V1 m ρ) c 0 t (ix3 b r l) = m ((c : Thread nD τ).loc main_arg1) (ix3 ⟨t.val * 2 + b.val, by omega⟩ r l) := by
  rw [← e1_arg1 m ρ c]
  blk_point [iblk0, idx0 t]
/-- Its block of the memory gain. -/
theorem blk0_1 (l : Fin 1024) : iblk0 (V1 m ρ) c 1 t (ix3 0 0 l) = m ((c : Thread nD τ).loc main_arg2) (ix2 0 l) := by
  rw [← e1_v4 m ρ c]
  blk_point [iblk0, idx0 t]
/-- Its block of the projection. -/
theorem blk0_2 (l : Fin 1024) (n : Fin 2048) : iblk0 (V1 m ρ) c 2 t (ix3 0 l n) = m ((c : Thread nD τ).loc main_arg5) (ix3 0 l n) := by
  rw [← e1_v2 m ρ c]
  blk_point [iblk0, idx0 t]
/-- Its block of the key gain. -/
theorem blk0_3 (d : Fin 256) : iblk0 (V1 m ρ) c 3 t (ix3 0 0 d) = m ((c : Thread nD τ).loc main_arg7) (ix2 0 d) := by
  rw [← e1_v5 m ρ c]
  blk_point [iblk0, idx0 t]
end

/-- The first kernel's keys array after its last grid point. -/
theorem final_keys : (dat0 (V1 m ρ) c).arrAt 4 cfg0.N
    = keys (m ((c : Thread nD τ).loc main_arg1)) (m ((c : Thread nD τ).loc main_arg2)) (m ((c : Thread nD τ).loc main_arg5))
        (m ((c : Thread nD τ).loc main_arg7)) := by
  refine (dat0 (V1 m ρ) c).arrAt_eq_of_covers 4 _ (by decide +kernel) fun t _ y => ?_
  blk_simp
  rw [after0_4]
  have ht : t.val < 8 := lt_of_lt_of_eq t.isLt N_0
  idx_vars y
  refine (out4_at _ _ _ _ y0 y1 y2).trans ?_
  simp only [blk0_0 m ρ c t ht, blk0_1, blk0_2, blk0_3]
  refine (show _ = keys (m ((c : Thread nD τ).loc main_arg1)) (m ((c : Thread nD τ).loc main_arg2)) (m ((c : Thread nD τ).loc main_arg5))
        (m ((c : Thread nD τ).loc main_arg7)) (ix3 ⟨t.val * 2 + y0.val, by omega⟩ y1 y2) from rfl).trans (congrArg _ ?_)
  blk_ext [idx0 t]

/-- The first kernel's values array after its last grid point. -/
theorem final_vals : (dat0 (V1 m ρ) c).arrAt 5 cfg0.N
    = vals (m ((c : Thread nD τ).loc main_arg1)) (m ((c : Thread nD τ).loc main_arg2)) (m ((c : Thread nD τ).loc main_arg5)) := by
  refine (dat0 (V1 m ρ) c).arrAt_eq_of_covers 5 _ (by decide +kernel) fun t _ y => ?_
  blk_simp
  rw [after0_5]
  have ht : t.val < 8 := lt_of_lt_of_eq t.isLt N_0
  idx_vars y
  refine (out5_at _ _ _ _ y0 y1 y2).trans ?_
  simp only [blk0_0 m ρ c t ht, blk0_1, blk0_2]
  refine (show _ = vals (m ((c : Thread nD τ).loc main_arg1)) (m ((c : Thread nD τ).loc main_arg2)) (m ((c : Thread nD τ).loc main_arg5))
        (ix3 ⟨t.val * 2 + y0.val, by omega⟩ y1 y2) from rfl).trans (congrArg _ ?_)
  blk_ext [idx0 t]

/-! ## The second kernel -/

/-- The sub-layer's result as a function of the arguments. -/
def xaOut (X : Vec Ideal S16x2048x1024 .f32) (M : Vec Ideal S16x256x1024 .f32) (G w : Vec Ideal S2x1024 .f32) (Wq : Vec Ideal S2x1024x1024 .f32)
    (W : Vec Ideal S2x1024x2048 .f32) (q k : Vec Ideal S2x256 .f32) (Wo : Vec Ideal S2x1024x1024 .f32) : Vec Ideal S16x2048x1024 .f32 := fun i =>
  xaRow (fun l => X (ix3 (i 0) (i 1) l)) (fun l => w (ix2 0 l)) (fun n l => Wq (ix3 0 l n)) (fun d => q (ix2 0 d))
    (fun r n => keys M G W k (ix3 (i 0) r n)) (fun n r => vals M G W (ix3 (i 0) n r)) (fun n l => Wo (ix3 0 n l)) (i 2)

/-- The rows are as launched when the second kernel starts. -/
theorem e3_arg0 : V3 m ρ c main_arg0 = m ((c : Thread nD τ).loc main_arg0) := W3_args m ρ c main_arg0 (by decide)
/-- The keys the second kernel reads. -/
theorem e3_k : V3 m ρ c main_v6_0 = keys (m ((c : Thread nD τ).loc main_arg1)) (m ((c : Thread nD τ).loc main_arg2)) (m ((c : Thread nD τ).loc main_arg5))
        (m ((c : Thread nD τ).loc main_arg7)) :=
  (W3_of m ρ c main_v6_0 (by decide)).trans ((W2_arr m ρ c 4).trans (final_keys m ρ c))
/-- The values the second kernel reads. -/
theorem e3_v : V3 m ρ c main_v6_1 = vals (m ((c : Thread nD τ).loc main_arg1)) (m ((c : Thread nD τ).loc main_arg2)) (m ((c : Thread nD τ).loc main_arg5)) :=
  (W3_of m ρ c main_v6_1 (by decide)).trans ((W2_arr m ρ c 5).trans (final_vals m ρ c))
/-- The output projection the second kernel reads. -/
theorem e3_v3 (n l : Fin 1024) : V3 m ρ c main_v3 (ix3 0 n l) = m ((c : Thread nD τ).loc main_arg8) (ix3 0 n l) := by
  refine (congrFun ((W3_of m ρ c main_v3 (by decide)).trans (W2_of m ρ c main_v3 (by decide +kernel))) _).trans ?_
  show StableHlo.after hostOps0 (W0 m ρ c) _ _ = _
  after_results
  pointwise []
/-- The query projection the second kernel reads, transposed. -/
theorem e3_v1 (n l : Fin 1024) : V3 m ρ c main_v1 (ix3 0 n l) = m ((c : Thread nD τ).loc main_arg4) (ix3 0 l n) := by
  refine (congrFun ((W3_of m ρ c main_v1 (by decide)).trans (W2_of m ρ c main_v1 (by decide +kernel))) _).trans ?_
  show StableHlo.after hostOps0 (W0 m ρ c) _ _ = _
  after_results
  pointwise []
/-- The gain of the rows the second kernel reads. -/
theorem e3_v7 (l : Fin 1024) : V3 m ρ c main_v7 (ix3 0 0 l) = m ((c : Thread nD τ).loc main_arg3) (ix2 0 l) := by
  show StableHlo.after hostOps1 (W2 m ρ c) _ _ = _
  after_results
  pointwise []
  exact congrFun (W2_args m ρ c main_arg3 (by decide)) _
/-- The query gain the second kernel reads. -/
theorem e3_v8 (d : Fin 256) : V3 m ρ c main_v8 (ix3 0 d 0) = m ((c : Thread nD τ).loc main_arg6) (ix2 0 d) := by
  show StableHlo.after hostOps1 (W2 m ρ c) _ _ = _
  after_results
  pointwise []
  exact congrFun (W2_args m ρ c main_arg6 (by decide)) _
/-- Which block each window of the second kernel reads or writes at a grid point. -/
theorem idx1 : ∀ t : Fin cfg1.N, win1_0.index t = ![t.val / 2, t.val % 2, 0] ∧ win1_1.index t = ![0, 0, 0] ∧ win1_2.index t = ![0, 0, 0]
    ∧ win1_3.index t = ![0, 0, 0] ∧ win1_4.index t = ![t.val / 2, 0, 0] ∧ win1_5.index t = ![t.val / 2, 0, 0] ∧ win1_6.index t = ![0, 0, 0]
    ∧ win1_7.index t = ![t.val / 2, t.val % 2, 0] :=
  (by decide +kernel : ∀ t : Fin grid1.N, _)

section
variable (t : Fin cfg1.N) (ht : t.val < 32)
/-- The second kernel's block of the rows. -/
theorem blk1_0 (r l : Fin 1024) :
    iblk1 (V3 m ρ) c 0 t (ix3 0 r l)
      = m ((c : Thread nD τ).loc main_arg0) (ix3 ⟨t.val / 2, by omega⟩ ⟨t.val % 2 * 1024 + r.val, by omega⟩ l) := by
  rw [← e3_arg0 m ρ c]
  blk_point [iblk1, idx1 t]
/-- Its block of the gain. -/
theorem blk1_1 (l : Fin 1024) : iblk1 (V3 m ρ) c 1 t (ix3 0 0 l) = m ((c : Thread nD τ).loc main_arg3) (ix2 0 l) := by
  rw [← e3_v7 m ρ c]
  blk_point [iblk1, idx1 t]
/-- Its block of the query projection. -/
theorem blk1_2 (n l : Fin 1024) : iblk1 (V3 m ρ) c 2 t (ix3 0 n l) = m ((c : Thread nD τ).loc main_arg4) (ix3 0 l n) := by
  rw [← e3_v1 m ρ c]
  blk_point [iblk1, idx1 t]
/-- Its block of the query gain. -/
theorem blk1_3 (d : Fin 256) : iblk1 (V3 m ρ) c 3 t (ix3 0 d 0) = m ((c : Thread nD τ).loc main_arg6) (ix2 0 d) := by
  rw [← e3_v8 m ρ c]
  blk_point [iblk1, idx1 t]
/-- Its block of the keys. -/
theorem blk1_4 (r : Fin 256) (n : Fin 1024) : iblk1 (V3 m ρ) c 4 t (ix3 0 r n)
    = keys (m ((c : Thread nD τ).loc main_arg1)) (m ((c : Thread nD τ).loc main_arg2)) (m ((c : Thread nD τ).loc main_arg5))
        (m ((c : Thread nD τ).loc main_arg7)) (ix3 ⟨t.val / 2, by omega⟩ r n) := by
  rw [← e3_k m ρ c]
  blk_point [iblk1, idx1 t]
/-- Its block of the values. -/
theorem blk1_5 (n : Fin 1024) (r : Fin 256) : iblk1 (V3 m ρ) c 5 t (ix3 0 n r)
    = vals (m ((c : Thread nD τ).loc main_arg1)) (m ((c : Thread nD τ).loc main_arg2)) (m ((c : Thread nD τ).loc main_arg5))
        (ix3 ⟨t.val / 2, by omega⟩ n r) := by
  rw [← e3_v m ρ c]
  blk_point [iblk1, idx1 t]
/-- Its block of the output projection. -/
theorem blk1_6 (n l : Fin 1024) : iblk1 (V3 m ρ) c 6 t (ix3 0 n l) = m ((c : Thread nD τ).loc main_arg8) (ix3 0 n l) := by
  rw [← e3_v3 m ρ c]
  blk_point [iblk1, idx1 t]
end

/-- The result array after the second kernel's last grid point. -/
theorem final : (dat1 (V3 m ρ) c).arrAt 7 cfg1.N
    = xaOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dat1 (V3 m ρ) c).arrAt_eq_of_covers 7 _ (by decide +kernel) fun t _ y => ?_
  blk_simp
  rw [after1_7]
  have ht : t.val < 32 := lt_of_lt_of_eq t.isLt N_1
  idx_vars y
  obtain rfl : y0 = 0 := Subsingleton.elim _ _
  refine (outs_at (V3 m ρ) c t y1 y2).trans ?_
  simp only [blk1_0 m ρ c t ht, blk1_1, blk1_2, blk1_3, blk1_4 m ρ c t ht, blk1_5 m ρ c t ht, blk1_6]
  refine (show _ = xaOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (ix3 ⟨t.val / 2, by omega⟩ ⟨t.val % 2 * 1024 + y1.val, by omega⟩ y2) from rfl).trans (congrArg _ ?_)
  blk_ext [idx1 t]
end Cert.XaIdeal.Val
-- ==== Proof.XaMath.lean ====
module
public import proofs.«01_k».proof.Proof.XaBlock
@[expose] public section
noncomputable section
/-! The mathematics of the cross-attention: under finite gains of the query and key norms the normed queries and keys are
    real numbers, whatever the inputs are; so the scores are real, and the kernel's weights (powers of two of scores
    scaled by the logarithm of two, one reciprocal of their sum) are the reference's softmax. -/
namespace Cert.XaIdeal.Val
open Cert.XaIdeal Cert.XaIdeal.Gen Idealize.ShloMosaic

/-- The constants of both programs, as real numbers. -/
theorem c256 : Ideal.ofBits FTy.f32 0x43800000#32 = ((256 : ℝ) : EReal) := by
  simp [Ideal.ofBits, Ideal.ieee, -EReal.coe_mul]; norm_num
theorem c256inv : Ideal.ofBits FTy.f32 0x3B800000#32 = ((1 / 256 : ℝ) : EReal) := by
  simp [Ideal.ofBits, Ideal.ieee, -EReal.coe_mul]; norm_num
theorem c16inv : Ideal.ofBits FTy.f32 0x3D800000#32 = ((1 / 16 : ℝ) : EReal) := by
  simp [Ideal.ofBits, Ideal.ieee, -EReal.coe_mul]; norm_num
theorem cbot : Ideal.ofBits FTy.f32 0xFF800000#32 = ⊥ := by
  simp [Ideal.ofBits, Ideal.ieee]
theorem ctop : Ideal.ofBits FTy.f32 0x7F800000#32 = ⊤ := by
  simp [Ideal.ofBits, Ideal.ieee]
theorem ceps : ∃ e : ℝ, 0 < e ∧ Ideal.ofBits FTy.f32 0x358637BD#32 = (e : EReal) := by
  refine ⟨_, ?_, by simp [Ideal.ofBits, Ideal.ieee, -EReal.coe_mul]; rfl⟩
  norm_num
theorem qscale : Named.named (F := Ideal) (φ := .f32) κ "qscale" 0x3DB8AA3B#32 = ((1 / 16 * (Real.log 2)⁻¹ : ℝ) : EReal) :=
  IdealRules.named_const.ideal_named_scalar _ _ _ _ rfl

/-- A square is not negative. -/
theorem sq_nonneg' (x : EReal) : 0 ≤ x * x := by
  induction x with
  | bot => simp
  | top => simp
  | coe r => exact_mod_cast mul_self_nonneg r

/-- The reciprocal root of a real number above zero is real. -/
theorem rsqrt_real (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg h.le.not_gt, if_neg h.ne']

/-- Numbers divided by their root mean square are real: a group with an infinite number has an infinite mean square, whose
    reciprocal root is zero. -/
theorem norm_real (z : Fin 256 → EReal) (d : Fin 256) :
    ∃ a : ℝ, z d * Ideal.rsqrt ((∑ x, z x * z x) * Ideal.ofBits FTy.f32 0x3B800000#32 + Ideal.ofBits FTy.f32 0x358637BD#32) = (a : EReal) := by
  obtain ⟨e, he, hE⟩ := ceps
  rw [hE, c256inv]
  have h0 : 0 ≤ ∑ x, z x * z x := Finset.sum_nonneg fun x _ => sq_nonneg' _
  by_cases ht : ∑ x, z x * z x = ⊤
  · refine ⟨0, ?_⟩
    rw [ht, EReal.top_mul_coe_of_pos (by norm_num), EReal.top_add_coe]
    show z d * 0 = _
    rw [mul_zero]
    rfl
  · have hb : ∑ x, z x * z x ≠ ⊥ := fun h => by
      rw [h] at h0
      exact absurd h0 (by simp)
    have hd : z d * z d ≤ ∑ x, z x * z x := Finset.single_le_sum (f := fun x => z x * z x) (fun x _ => sq_nonneg' _) (Finset.mem_univ d)
    have hdt : z d * z d ≠ ⊤ := fun h => ht (top_le_iff.mp (h ▸ hd))
    have hz : ∃ r : ℝ, z d = r := by
      generalize z d = y at hdt
      induction y with
      | bot => exact absurd (by simp) hdt
      | top => exact absurd (by simp) hdt
      | coe r => exact ⟨r, rfl⟩
    obtain ⟨r, hr⟩ := hz
    obtain ⟨S, hS⟩ : ∃ S : ℝ, ∑ x, z x * z x = S := ⟨_, (EReal.coe_toReal ht hb).symm⟩
    rw [hS] at h0
    have hS0 : 0 ≤ S := by exact_mod_cast h0
    refine ⟨r * (Real.sqrt (S * (1 / 256) + e))⁻¹, ?_⟩
    rw [hS, hr, ← EReal.coe_mul, ← EReal.coe_add, rsqrt_real _ (by positivity), ← EReal.coe_mul]

/-- Dividing by 256 is multiplying by its reciprocal. -/
theorem div256 (x : EReal) : Ideal.div x (Ideal.ofBits FTy.f32 0x43800000#32) = x * Ideal.ofBits FTy.f32 0x3B800000#32 := by
  rw [c256, c256inv]
  exact Ideal.div_coe (by norm_num) x

/-- A normed head with a finite gain is real. -/
theorem normHead_real (z g : Fin 256 → EReal) (hg : ∀ d, ∃ r : ℝ, g d = r) (d : Fin 256) : ∃ r : ℝ, normHead z g d = r := by
  obtain ⟨a, ha⟩ := norm_real z d
  obtain ⟨b, hb⟩ := hg d
  refine ⟨a * b, ?_⟩
  unfold normHead
  rw [div256, ha, hb, EReal.coe_mul]

/-- A sum of real numbers. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real number that is not negative is multiplied into a sum term by term. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top _), ih]

/-- The largest of finitely many real numbers, and of the same numbers scaled by a positive one. -/
theorem fold_max (f : Fin 256 → ℝ) : ∃ μ : ℝ, ∀ c : ℝ, 0 < c → Finset.fold max (⊥ : EReal) (fun m => ((f m * c : ℝ) : EReal)) Finset.univ = ((μ * c : ℝ) : EReal) := by
  obtain ⟨k, -, hk⟩ := Finset.exists_max_image (Finset.univ : Finset (Fin 256)) f ⟨0, Finset.mem_univ _⟩
  refine ⟨f k, fun c hc => le_antisymm ?_ ?_⟩
  · refine Finset.fold_max_le _ |>.mpr ⟨bot_le, fun m hm => ?_⟩
    exact_mod_cast mul_le_mul_of_nonneg_right (hk m hm) hc.le
  · exact Finset.le_fold_max _ |>.mpr (Or.inr ⟨k, Finset.mem_univ _, le_refl _⟩)

/-- The reference's attention of one query head, from normed queries `n` and keys `k`: softmax of the scaled scores over
    the memory, and the values averaged. -/
def refAtt (n : Fin 256 → EReal) (k : Fin 256 → Fin 256 → EReal) (v : Fin 256 → EReal) : EReal :=
  let S := fun m => (∑ d, n d * k m d) * Ideal.ofBits FTy.f32 0x3D800000#32
  let p := fun m => Ideal.exp (S m - max (Ideal.ofBits FTy.f32 0xFF800000#32) (Finset.fold max (Ideal.ofBits FTy.f32 0xFF800000#32) S Finset.univ))
  ∑ m, v m * Ideal.div (p m) (∑ m, p m)

/-- The kernel's attention of one query head is the reference's. -/
theorem att_eq (z g : Fin 256 → EReal) (k : Fin 256 → Fin 256 → EReal) (v : Fin 256 → EReal)
    (hg : ∀ d, ∃ r : ℝ, g d = r) (hk : ∀ m d, ∃ r : ℝ, k m d = r) :
    avgOf (powOf fun m => scoreOf z g (k m)) v = refAtt (normHead z g) k v := by
  choose a ha using norm_real z
  choose γ hγ using hg
  choose κ' hκ using hk
  have hlog : 0 < Real.log 2 := Real.log_pos (by norm_num)
  have hs : ∀ m, scoreOf z g (k m) = (((∑ d, a d * γ d * κ' m d) * (1 / 16) * (Real.log 2)⁻¹ : ℝ) : EReal) := fun m => by
    unfold scoreOf
    rw [qscale]
    have h1 : ∀ x, k m x * (z x * (Ideal.rsqrt ((∑ x, z x * z x) * Ideal.ofBits FTy.f32 998244352#32 + Ideal.ofBits FTy.f32 897988541#32)
        * ((1 / 16 * (Real.log 2)⁻¹ : ℝ) : EReal)) * g x) = ((a x * γ x * κ' m x * (1 / 16) * (Real.log 2)⁻¹ : ℝ) : EReal) := fun x => by
      rw [← mul_assoc (z x), ha x, hγ, hκ, ← EReal.coe_mul, ← EReal.coe_mul, ← EReal.coe_mul]
      congr 1
      ring
    rw [Finset.sum_congr rfl fun x _ => h1 x, sum_coe, Finset.sum_mul, Finset.sum_mul]
  have hS : ∀ m, (∑ d, normHead z g d * k m d) * Ideal.ofBits FTy.f32 0x3D800000#32 = (((∑ d, a d * γ d * κ' m d) * (1 / 16) * 1 : ℝ) : EReal) := fun m => by
    have h1 : ∀ d, normHead z g d * k m d = ((a d * γ d * κ' m d : ℝ) : EReal) := fun d => by
      unfold normHead
      rw [div256, ha, hγ, hκ, ← EReal.coe_mul, ← EReal.coe_mul]
    rw [Finset.sum_congr rfl fun d _ => h1 d, sum_coe, c16inv, ← EReal.coe_mul, mul_one]
  obtain ⟨μ, hμ⟩ := fold_max fun m => (∑ d, a d * γ d * κ' m d) * (1 / 16)
  unfold avgOf powOf refAtt
  simp only [hs, hS, cbot, hμ _ (inv_pos.mpr hlog), hμ 1 one_pos, max_eq_right bot_le]
  have e1 : ∀ m, FloatOps.exp2 (F := Ideal) (φ := .f32) (((((∑ d, a d * γ d * κ' m d) * (1 / 16)) * (Real.log 2)⁻¹ : ℝ) : EReal) - ((μ * (Real.log 2)⁻¹ : ℝ) : EReal))
      = ((Real.exp ((∑ d, a d * γ d * κ' m d) * (1 / 16) - μ) : ℝ) : EReal) := fun m => by
    rw [← EReal.coe_sub, ← sub_mul]
    show ((Real.rpow 2 _ : ℝ) : EReal) = _
    congr 1
    rw [Real.rpow_eq_pow, Real.rpow_def_of_pos (by norm_num)]
    congr 1
    field_simp
  have e2 : ∀ m, Ideal.exp (((((∑ d, a d * γ d * κ' m d) * (1 / 16)) * 1 : ℝ) : EReal) - ((μ * 1 : ℝ) : EReal))
      = ((Real.exp ((∑ d, a d * γ d * κ' m d) * (1 / 16) - μ) : ℝ) : EReal) := fun m => by
    rw [← EReal.coe_sub, mul_one, mul_one]
    rfl
  simp only [e1, e2, sum_coe]
  have hD : 0 < ∑ m, Real.exp ((∑ d, a d * γ d * κ' m d) * (1 / 16) - μ) := Finset.sum_pos (fun m _ => Real.exp_pos _) ⟨0, Finset.mem_univ _⟩
  rw [Ideal.div_coe hD.ne', one_mul, sum_mul_coe _ _ _ (by positivity)]
  refine Finset.sum_congr rfl fun m _ => ?_
  rw [Ideal.div_coe hD.ne', mul_assoc]
end Cert.XaIdeal.Val
-- ==== Proof.XaRef.lean ====
module
public import proofs.«01_k».proof.Proof.XaArrays
public import proofs.«01_k».proof.Proof.XaMath
public import proofs.«01_k».proof.Proof.Gen.XaRefIdeal.Run
public import proofs.«01_k».proof.Proof.Gen.XaRefIdeal.Read
@[expose] public section
set_option maxRecDepth 16384
noncomputable section
/-! The cross-attention's reference, stage by stage at an index, and its result: the kernel's. -/
namespace Cert.XaRefIdeal.Val
open Cert.XaIdeal.Val Cert.XaRefIdeal Cert.XaRefIdeal.Gen Cert.XaRefIdeal.Read Idealize.ShloMosaic Idealize.ShloMosaic.TcCoe Idealize.SL.Sem
/-- The reference's reduction runs over the last axis. -/
theorem red_axis : S16x4x2048x256.Reduces [3] S16x4x2048 := by decide
/-- The index that the reduction reads, by its coordinates. -/
theorem red_lift (b : Fin 16) (h : Fin 4) (t : Fin 2048) (r : Fin 256) : red_axis.lift (ix3 b h t) r = ix4 b h t r := by
  funext a
  fin_cases a <;> rfl
/-- A reduction over the last axis, at an index, is the fold over the row. -/
theorem red_any (f : Ideal .f32 → Ideal .f32 → Ideal .f32) [Std.Commutative f] [Std.Associative f] (v : FVec Ideal S16x4x2048x256 .f32) (c : FVec Ideal S_ .f32) (b : Fin 16) (h : Fin 4) (t : Fin 2048) :
    Host.reduce f v c reducesTo_S16x4x2048x256_S16x4x2048_d3 h_S_ (ix3 b h t)
      = Finset.fold f (c (Shape.Idx.first h_S_)) (fun r : Fin 256 => v (ix4 b h t r)) Finset.univ := by
  refine (Host.reduce_eq_fold_single f v c _ red_axis h_S_ (ix3 b h t)).trans ?_
  exact Finset.fold_congr fun r _ => congrArg v (red_lift b h t r)
/-- The largest of `-∞` and the entries of a row of scores, as the reference computes it. -/
theorem red_at (v : FVec Ideal S16x4x2048x256 .f32) (c : FVec Ideal S_ .f32) (u : FVec Ideal S16x4x2048 .f32) (b : Fin 16) (h : Fin 4) (t : Fin 2048) :
    maximumf u (Host.reduce FloatOps.maximumf v c reducesTo_S16x4x2048x256_S16x4x2048_d3 h_S_) (ix3 b h t)
      = max (u (ix3 b h t)) (Finset.fold max (c (Shape.Idx.first h_S_)) (fun r : Fin 256 => v (ix4 b h t r)) Finset.univ) :=
  congrArg (max _) (red_any FloatOps.maximumf v c b h t)

section
variable (X : Vec Ideal S16x2048x1024 .f32) (M : Vec Ideal S16x256x1024 .f32) (G w : Vec Ideal S2x1024 .f32) (Wq : Vec Ideal S2x1024x1024 .f32)
    (W : Vec Ideal S2x1024x2048 .f32) (q k : Vec Ideal S2x256 .f32) (Wo : Vec Ideal S2x1024x1024 .f32)
/-- The reference's normed rows. -/
theorem x_at (b : Fin 16) (t : Fin 2048) (l : Fin 1024) :
    val_main_v14 (F := Ideal) X w (ix3 b t l) = normRow (fun l => X (ix3 b t l)) (fun l => w (ix2 0 l)) l := by
  unfold normRow
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
/-- The reference's normed memory. -/
theorem m_at (b : Fin 16) (r : Fin 256) (l : Fin 1024) :
    val_main_v29 (F := Ideal) M G (ix3 b r l) = normRow (fun l => M (ix3 b r l)) (fun l => G (ix2 0 l)) l := by
  unfold normRow
  pointwise [val_main_v29, val_main_v28, val_main_v27, val_main_v26, val_main_v25, val_main_v24, val_main_v23, val_main_v22, val_main_v21,
    val_main_v20, val_main_v19, val_main_v18, val_main_v17, val_main_v16, val_main_v15, val_main_cst_2, val_main_cst_3, val_main_cst_4]
/-- The reference's queries before their norm. -/
theorem q_at (b : Fin 16) (t : Fin 2048) (h : Fin 4) (d : Fin 256) :
    val_main_v33 (F := Ideal) X w Wq (ix4 b t h d)
      = projT (fun l => X (ix3 b t l)) (fun l => w (ix2 0 l)) (fun n l => Wq (ix3 0 l n)) (⟨h.val * 256 + d.val, by omega⟩ : Fin 1024) := by
  unfold projT
  pointwise [val_main_v33, val_main_v32, val_main_v31, val_main_v30, x_at]
  exact Finset.sum_congr rfl fun x _ => mul_comm _ _
/-- The reference's projected memory. -/
theorem kv_at (b : Fin 16) (r : Fin 256) (n : Fin 2048) :
    val_main_v36 (F := Ideal) M G W (ix3 b r n) = proj (fun l => M (ix3 b r l)) (fun l => G (ix2 0 l)) (fun l n => W (ix3 0 l n)) n := by
  unfold proj
  pointwise [val_main_v36, val_main_v35, val_main_v34, m_at]
/-- The reference's keys before their norm. -/
theorem k_at (b : Fin 16) (r : Fin 256) (h : Fin 4) (d : Fin 256) :
    val_main_v39 (F := Ideal) M G W (ix4 b r h d) = proj (fun l => M (ix3 b r l)) (fun l => G (ix2 0 l)) (fun l n => W (ix3 0 l n)) (⟨h.val * 256 + d.val, by omega⟩ : Fin 2048) := by
  pointwise [val_main_v39, val_main_v37, kv_at]
/-- The reference's values. -/
theorem v_at (b : Fin 16) (r : Fin 256) (h : Fin 4) (d : Fin 256) :
    val_main_v40 (F := Ideal) M G W (ix4 b r h d) = proj (fun l => M (ix3 b r l)) (fun l => G (ix2 0 l)) (fun l n => W (ix3 0 l n)) (⟨1024 + (h.val * 256 + d.val), by omega⟩ : Fin 2048) := by
  pointwise [val_main_v40, val_main_v38, kv_at]
/-- The reference's normed queries. -/
theorem qn_at (b : Fin 16) (t : Fin 2048) (h : Fin 4) (d : Fin 256) :
    val_main_v55 (F := Ideal) X w Wq q (ix4 b t h d) = normHead (fun d => val_main_v33 (F := Ideal) X w Wq (ix4 b t h d)) (fun d => q (ix2 0 d)) d := by
  unfold normHead
  pointwise [val_main_v55, val_main_v54, val_main_v53, val_main_v52, val_main_v51, val_main_v50, val_main_v49, val_main_v48, val_main_v47,
    val_main_v46, val_main_v45, val_main_v44, val_main_v43, val_main_v42, val_main_v41, val_main_cst_5, val_main_cst_6, val_main_cst_7]
/-- The reference's normed keys. -/
theorem kn_at (b : Fin 16) (r : Fin 256) (h : Fin 4) (d : Fin 256) :
    val_main_v70 (F := Ideal) M G W k (ix4 b r h d) = normHead (fun d => val_main_v39 (F := Ideal) M G W (ix4 b r h d)) (fun d => k (ix2 0 d)) d := by
  unfold normHead
  pointwise [val_main_v70, val_main_v69, val_main_v68, val_main_v67, val_main_v66, val_main_v65, val_main_v64, val_main_v63, val_main_v62,
    val_main_v61, val_main_v60, val_main_v59, val_main_v58, val_main_v57, val_main_v56, val_main_cst_8, val_main_cst_9, val_main_cst_10]
/-- The reference's scaled scores. -/
theorem s_at (b : Fin 16) (h : Fin 4) (t : Fin 2048) (r : Fin 256) :
    val_main_v73 (F := Ideal) X M G w Wq W q k (ix4 b h t r)
      = (∑ d : Fin 256, val_main_v55 (F := Ideal) X w Wq q (ix4 b t h d) * val_main_v70 (F := Ideal) M G W k (ix4 b r h d)) * Ideal.ofBits FTy.f32 0x3D800000#32 := by
  pointwise [val_main_v73, val_main_v72, val_main_v71, val_main_cst_11]
/-- The reference's largest score. -/
theorem max_at (b : Fin 16) (h : Fin 4) (t : Fin 2048) :
    val_main_v76 (F := Ideal) X M G w Wq W q k (ix3 b h t)
      = max (Ideal.ofBits FTy.f32 0xFF800000#32) (Finset.fold max (Ideal.ofBits FTy.f32 0xFF800000#32)
          (fun r => val_main_v73 (F := Ideal) X M G w Wq W q k (ix4 b h t r)) Finset.univ) := by
  unfold val_main_v76 val_main_v74
  generalize val_main_v73 (F := Ideal) X M G w Wq W q k = v
  refine (red_at v _ _ b h t).trans ?_
  rw [val_main_v75_apply, val_main_cst_13_apply, val_main_cst_12_apply]
  rfl
/-- The reference's exponentials. -/
theorem e_at (b : Fin 16) (h : Fin 4) (t : Fin 2048) (r : Fin 256) :
    val_main_v80 (F := Ideal) X M G w Wq W q k (ix4 b h t r)
      = Ideal.exp (val_main_v73 (F := Ideal) X M G w Wq W q k (ix4 b h t r) - val_main_v76 (F := Ideal) X M G w Wq W q k (ix3 b h t)) := by
  pointwise [val_main_v80, val_main_v79, val_main_v78, val_main_v77]
/-- The reference's softmax. -/
theorem p_at (b : Fin 16) (h : Fin 4) (t : Fin 2048) (r : Fin 256) :
    val_main_v84 (F := Ideal) X M G w Wq W q k (ix4 b h t r)
      = Ideal.div (val_main_v80 (F := Ideal) X M G w Wq W q k (ix4 b h t r)) (∑ r : Fin 256, val_main_v80 (F := Ideal) X M G w Wq W q k (ix4 b h t r)) := by
  pointwise [val_main_v84, val_main_v83, val_main_v82, val_main_v81, val_main_cst_14]
/-- The reference's averaged values. -/
theorem av_at (b : Fin 16) (t : Fin 2048) (h : Fin 4) (d : Fin 256) :
    val_main_v86 (F := Ideal) X M G w Wq W q k (ix4 b t h d)
      = ∑ r : Fin 256, val_main_v40 (F := Ideal) M G W (ix4 b r h d) * val_main_v84 (F := Ideal) X M G w Wq W q k (ix4 b h t r) := by
  pointwise [val_main_v86, val_main_v85]
/-- The reference's attention of one head. -/
theorem o_at (b : Fin 16) (t : Fin 2048) (h : Fin 4) (d : Fin 256) :
    val_main_v86 (F := Ideal) X M G w Wq W q k (ix4 b t h d)
      = refAtt (fun d => val_main_v55 (F := Ideal) X w Wq q (ix4 b t h d)) (fun r d => val_main_v70 (F := Ideal) M G W k (ix4 b r h d))
          (fun r => val_main_v40 (F := Ideal) M G W (ix4 b r h d)) := by
  rw [av_at]
  unfold refAtt
  simp only [p_at, e_at, max_at, s_at]
/-- The reference's rows after the heads are put side by side. -/
theorem row_at (b : Fin 16) (t : Fin 2048) (n : Fin 1024) :
    val_main_v87 (F := Ideal) X M G w Wq W q k (ix3 b t n)
      = val_main_v86 (F := Ideal) X M G w Wq W q k (ix4 b t (⟨n.val / 256, by omega⟩ : Fin 4) (⟨n.val % 256, by omega⟩ : Fin 256)) := by
  pointwise [val_main_v87]
/-- The reference's result from its attended rows. -/
theorem res_at (b : Fin 16) (t : Fin 2048) (c : Fin 1024) :
    val_main_v91 (F := Ideal) X M G w Wq W q k Wo (ix3 b t c)
      = X (ix3 b t c) + ∑ n : Fin 1024, val_main_v87 (F := Ideal) X M G w Wq W q k (ix3 b t n) * Wo (ix3 0 n c) := by
  pointwise [val_main_v91, val_main_v90, val_main_v89, val_main_v88]

/-- The kernel's keys, at a column of the head that column `n` lies in. -/
theorem keys_col (b : Fin 16) (r : Fin 256) (n : Fin 1024) (d : Fin 256) : keys M G W k (ix3 b r (headCol n d))
    = normHead (fun d => proj (fun l => M (ix3 b r l)) (fun l => G (ix2 0 l)) (fun l n => W (ix3 0 l n))
        (⟨(⟨n.val / 256, by omega⟩ : Fin 4).val * 256 + d.val, by have := n.isLt; show n.val / 256 * 256 + d.val < 2048; omega⟩ : Fin 2048)) (fun d => k (ix2 0 d)) d := by
  have e1 : (headCol n d).val / 256 = n.val / 256 := by
    show (n.val / 256 * 256 + d.val) / 256 = _
    omega
  have e2 : (⟨(headCol n d).val % 256, Nat.mod_lt _ (by decide)⟩ : Fin 256) = d := Fin.ext (by
    show (n.val / 256 * 256 + d.val) % 256 = _
    omega)
  show normHead (fun d' => proj _ _ _ (⟨(headCol n d).val / 256 * 256 + d'.val, _⟩ : Fin 2048)) _ ⟨(headCol n d).val % 256, _⟩ = _
  rw [e2]
  refine congrArg (fun f => normHead f _ d) (funext fun d' => congrArg (proj _ _ _) (Fin.ext ?_))
  show (headCol n d).val / 256 * 256 + d'.val = _
  rw [e1]

/-- The reference's result is the kernel's, where the gains of the query and key norms are finite. -/
theorem ref_eq (hq : ∀ d, ∃ r : ℝ, q (ix2 0 d) = r) (hk : ∀ d, ∃ r : ℝ, k (ix2 0 d) = r) :
    val_main_v91 (F := Ideal) X M G w Wq W q k Wo = xaOut X M G w Wq W q k Wo := by
  funext i
  idx_vars i
  rw [res_at]
  unfold xaOut xaRow
  refine congrArg (_ + ·) (Finset.sum_congr rfl fun n _ => congrArg (· * _) ?_)
  have hn : n.val / 256 * 256 + n.val % 256 = n.val := by omega
  have e1 : (fun d => val_main_v55 (F := Ideal) X w Wq q (ix4 i0 i1 (⟨n.val / 256, by omega⟩ : Fin 4) d))
      = normHead (fun d => projT (fun l => X (ix3 i0 i1 l)) (fun l => w (ix2 0 l)) (fun n l => Wq (ix3 0 l n)) (headCol n d)) (fun d => q (ix2 0 d)) := by
    funext d
    rw [qn_at]
    simp only [q_at]
    rfl
  have e2 : (fun r d => val_main_v70 (F := Ideal) M G W k (ix4 i0 r (⟨n.val / 256, by omega⟩ : Fin 4) d))
      = fun r d => keys M G W k (ix3 i0 r (headCol n d)) := by
    funext r d
    rw [kn_at]
    simp only [k_at]
    exact (keys_col M G W k i0 r n d).symm
  have e3 : (fun r => val_main_v40 (F := Ideal) M G W (ix4 i0 r (⟨n.val / 256, by omega⟩ : Fin 4) (⟨n.val % 256, by omega⟩ : Fin 256)))
      = fun r => vals M G W (ix3 i0 n r) := by
    funext r
    rw [v_at]
    exact congrArg (proj _ _ _) (Fin.ext (by show 1024 + (n.val / 256 * 256 + n.val % 256) = 1024 + n.val; omega))
  rw [row_at, o_at, e1, e2, e3]
  refine (att_eq _ _ _ _ hq fun r d => ?_).symm
  rw [keys_col]
  exact normHead_real _ _ hk _
end
end Cert.XaRefIdeal.Val
-- ==== Proof.XaPre.lean ====
module
public import proofs.«01_k».proof.Defs
public import proofs.«01_k».proof.Proof.XaMath
@[expose] public section
noncomputable section
/-! The precondition of the cross-attention's value claim, read at an entry: the gains of the query and key norms are
    real numbers. -/
/-- The side condition that the predicate states: a scalar broadcasts to the gains' shape. -/
theorem Cert.XaIdeal.Val.pre_facts : Cert.Pre_finite_gains.Facts := ⟨by decide⟩

namespace Cert.XaIdeal.Val
open Cert.XaIdeal Cert.XaIdeal.Gen Idealize.ShloMosaic

/-- An extended real whose absolute value is below `∞` is a real number. -/
theorem real_of_lt (x : Ideal .f32)
    (h : FloatOps.cmpf (F := Ideal) .olt (FloatOps.absf x) (FloatOps.ofBits .f32 0x7F800000#32) = 1#1) : ∃ r : ℝ, x = r := by
  have h' : max x (-x) < (⊤ : EReal) := by
    rw [← ctop]
    by_contra hn
    have e : FloatOps.cmpf (F := Ideal) .olt (FloatOps.absf x) (FloatOps.ofBits .f32 0x7F800000#32) = 0#1 := by
      show BitVec.ofBool (decide (max x (-x) < Ideal.ofBits FTy.f32 0x7F800000#32)) = 0#1
      rw [decide_eq_false hn]
      rfl
    rw [e] at h
    exact absurd h (by decide)
  induction x using EReal.rec with
  | bot => exact absurd h' (by simp)
  | top => exact absurd h' (by simp)
  | coe r => exact ⟨r, rfl⟩

/-- Two flags whose conjunction is one are both one. -/
theorem both_one (a b : BitVec 1) (h : a &&& b = 1#1) : a = 1#1 ∧ b = 1#1 := by
  revert a b
  decide

/-- Under the precondition the gains of the query norm and of the key norm are real, at every entry. -/
theorem gains_real [Cert.Pre_finite_gains.Facts] (x0 : FVec Ideal Cert.Pre_finite_gains.S16x2048x1024 .f32) (x1 : FVec Ideal Cert.Pre_finite_gains.S16x256x1024 .f32)
    (x2 x3 : FVec Ideal Cert.Pre_finite_gains.S2x1024 .f32) (x4 : FVec Ideal Cert.Pre_finite_gains.S2x1024x1024 .f32)
    (x5 : FVec Ideal Cert.Pre_finite_gains.S2x1024x2048 .f32) (q k : FVec Ideal Cert.Pre_finite_gains.S2x256 .f32)
    (x8 : FVec Ideal Cert.Pre_finite_gains.S2x1024x1024 .f32)
    (h : Cert.Pre_finite_gains.fn (F := Ideal) x0 x1 x2 x3 x4 x5 q k x8 = fun _ => 1#1)
    (i : Cert.Pre_finite_gains.S2x256.Idx) : (∃ r : ℝ, q i = r) ∧ ∃ r : ℝ, k i = r := by
  have hi := congrFun h i
  have hb := both_one _ _ hi
  exact ⟨real_of_lt _ hb.1, real_of_lt _ hb.2⟩
end Cert.XaIdeal.Val
-- ==== Proof.lean ====
module

public import proofs.«01_k».proof.Defs
public import proofs.«01_k».proof.Proof.Gen.Xa
public import proofs.«01_k».proof.Proof.Gen.Xa.Skeleton
public import proofs.«01_k».proof.Proof.Gen.Xa.Launch
public import proofs.«01_k».proof.Proof.Gen.Xa.Points
public import proofs.«01_k».proof.Proof.Gen.Xa.Frame
public import proofs.«01_k».proof.Proof.Gen.XaIdeal
public import proofs.«01_k».proof.Proof.Gen.XaIdeal.Skeleton
public import proofs.«01_k».proof.Proof.Gen.XaIdeal.Launch
public import proofs.«01_k».proof.Proof.Gen.XaIdeal.Points
public import proofs.«01_k».proof.Proof.Gen.XaIdeal.Frame
public import proofs.«01_k».proof.Proof.Gen.XaRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.XaRefIdeal.Run
public import proofs.«01_k».proof.Proof.Gen.XaRefIdeal.Read
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.FfnValue
public import proofs.«01_k».proof.Proof.XaRun
public import proofs.«01_k».proof.Proof.XaArrays
public import proofs.«01_k».proof.Proof.XaRef
public import proofs.«01_k».proof.Proof.XaPre
public import Idealize.ShloMosaic.Adequacy
public import Idealize.ShloMosaic.Init

@[expose] public section

noncomputable section

namespace Cert.Proof

open Idealize.ShloMosaic Idealize.SL.Sem Cert.Xa

/-- The feed-forward sub-layer: the kernel and its reference, on the same arguments, end with the same result. -/
theorem ffn_algebraic : algebraic_FfnIdeal_FfnRefIdeal (hFfnIdeal := Cert.FfnIdeal.Gen.facts) (hFfnRefIdeal := Cert.FfnRefIdeal.Gen.facts) := by
  intro m g m' g' _ ha
  refine ⟨fun c => (Cert.FfnIdeal.Gen.dats m 0 c).arrAt 4 (Cert.FfnIdeal.cfgs 0).N,
    Cert.FfnIdeal.Value.run_blocks m g,
    (θ_run Cert.FfnRefIdeal.defs _ _).mono (fun r h c => ⟨(h c).1.trans ?_, (h c).2⟩) (Cert.FfnRefIdeal.Value.run (F := Ideal) m' g')⟩
  refine (Cert.FfnRefIdeal.Read.val_main_v25_eq _ _ _ _).trans ?_
  rw [(ha c).1, (ha c).2.1, (ha c).2.2.1, (ha c).2.2.2]
  exact (Cert.FfnRefIdeal.Val.ref_eq _ _ _ _).trans (Cert.FfnIdeal.Val.final m c).symm

/-- The cross-attention's result is its reference's, on extended reals, where the gains of its query and key norms are finite. -/
theorem xa_algebraic : algebraic_XaIdeal_XaRefIdeal_pre_finite_gains (hXaIdeal := Cert.XaIdeal.Gen.facts) (hXaRefIdeal := Cert.XaRefIdeal.Gen.facts)
    (hPre_finite_gains := Cert.XaIdeal.Val.pre_facts) := by
  intro m g m' g' hp ha
  haveI := Cert.XaIdeal.Val.pre_facts
  refine ⟨fun c => (Cert.XaIdeal.Gen.dat1 (Cert.XaIdeal.Gen.V3 m g) c).arrAt 7 Cert.XaIdeal.cfg1.N,
    Cert.XaIdeal.Val.run m g,
    (θ_run Cert.XaRefIdeal.defs _ _).mono (fun r h c => ⟨(h c).1.trans ?_, (h c).2⟩) (Cert.XaRefIdeal.Value.run (F := Ideal) m' g')⟩
  refine (Cert.XaRefIdeal.Read.val_main_v91_eq _ _).trans ?_
  obtain ⟨h0, h1, h2, h3, h4, h5, h6, h7, h8⟩ := ha c
  rw [h0, h1, h2, h3, h4, h5, h6, h7, h8]
  have hr := fun d => Cert.XaIdeal.Val.gains_real _ _ _ _ _ _ _ _ _ (hp c) (ix2 (0 : Fin 2) (d : Fin 256))
  exact (Cert.XaRefIdeal.Val.ref_eq _ _ _ _ _ _ _ _ _ (fun d => (hr d).1) fun d => (hr d).2).trans (Cert.XaIdeal.Val.final m g c).symm

theorem claim : Cert.Claim := ⟨Cert.Xa.Gen.facts, Cert.XaIdeal.Gen.facts, Cert.XaRefIdeal.Gen.facts, Cert.Ffn.Gen.facts, Cert.FfnIdeal.Gen.facts, Cert.FfnRefIdeal.Gen.facts, Cert.Gla.Gen.facts, Cert.GlaIdeal.Gen.facts, Cert.XaIdeal.Val.pre_facts,
  fun m g _ => Cert.Xa.Gen.frame m g,
  fun m g _ => Cert.XaIdeal.Gen.frame m g,
  fun m g _ => Cert.XaIdeal.Gen.frame m g,
  fun m g _ => (θ_run Cert.XaRefIdeal.defs _ _).mono (fun r h => ⟨fun c => (h c).2, sem_eq_zero_of_no_sems (by decide) r.2⟩) (Cert.XaRefIdeal.Value.run (F := Ideal) m g),
  fun m g _ => (θ_run Cert.XaRefIdeal.defs _ _).mono (fun r h => ⟨fun c => (h c).2, sem_eq_zero_of_no_sems (by decide) r.2⟩) (Cert.XaRefIdeal.Value.run (F := Ideal) m g),
  fun m g _ => Cert.Ffn.Gen.frame m g,
  fun m g _ => Cert.FfnIdeal.Gen.frame m g,
  fun m g _ => (θ_run Cert.FfnRefIdeal.defs _ _).mono (fun r h => ⟨fun c => (h c).2, sem_eq_zero_of_no_sems (by decide) r.2⟩) (Cert.FfnRefIdeal.Value.run (F := Ideal) m g),
  fun m g _ => Cert.Gla.Gen.frame m g,
  fun m g _ => Cert.GlaIdeal.Gen.frame m g,
  IdealRules.named_const.statement Cert.XaIdeal.κ "qscale" .f32 0x3DB8AA3B#32 _ rfl,
  xa_algebraic,
  trivial,
  ffn_algebraic,
  trivial⟩

end Cert.Proof

end
